-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served [hPre_served : Cert.Pre_served.Facts] (m : (ℓ : Loc Cert.KernelIdeal.nD Cert.KernelIdeal.τ Cert.KernelIdeal.sig) → Buf (Elt Ideal) ℓ) : Prop :=
  ∀ c : Dev Cert.KernelIdeal.nD,
    (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served [hPre_served : Cert.Pre_served.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_served [hKernelIdeal : Cert.KernelIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_served [hReferenceIdeal : Cert.ReferenceIdeal.Facts] [hPre_served : Cert.Pre_served.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_served [hKernelIdeal : Cert.KernelIdeal.Facts] [hReferenceIdeal : Cert.ReferenceIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_served : Cert.Pre_served.Facts),
    quiescent_Kernel (hKernel := hKernel)
    ∧ quiescent_KernelIdeal (hKernelIdeal := hKernelIdeal)
    ∧ quiescent_KernelIdeal_pre_served (hKernelIdeal := hKernelIdeal) (hPre_served := hPre_served)
    ∧ quiescent_ReferenceIdeal (hReferenceIdeal := hReferenceIdeal)
    ∧ quiescent_ReferenceIdeal_pre_served (hReferenceIdeal := hReferenceIdeal) (hPre_served := hPre_served)
    ∧ preserves_Kernel_KernelIdeal
    ∧ algebraic_KernelIdeal_ReferenceIdeal_pre_served (hKernelIdeal := hKernelIdeal) (hReferenceIdeal := hReferenceIdeal) (hPre_served := hPre_served)
-- ==== Pre_served.lean ====
abbrev S6x384x2048 : Shape := ⟨3, ![6, 384, 2048]⟩
abbrev S128x2048 : Shape := ⟨2, ![128, 2048]⟩
abbrev S16 : Shape := ⟨1, ![16]⟩
abbrev S128 : Shape := ⟨1, ![128]⟩
abbrev S6x384 : Shape := ⟨2, ![6, 384]⟩
abbrev S6x1 : Shape := ⟨2, ![6, 1]⟩
abbrev S_ : Shape := ⟨0, ![]⟩

class Facts : Prop where
  slices_S6x384_S6x1_0_0 : S6x384.Slices ![0, 0] S6x1
  bcast_S6x1_S6x384_0_1 : S6x1.BroadcastsInDim S6x384 (![0, 1] : Fin 2 → Fin S6x384.rank)
  reducesTo_S6x384_S_d0_1 : S6x384.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S6x384x2048 .bf16) (main_arg1 : FVec F S128x2048 .fp8e4m3) (main_arg2 : FVec F S16 .f32) (main_arg3 : FVec F S128 .f32) (main_arg4 : FVec F S128 .f32) (main_arg5 : IVec S6x384 32) : IVec S_ 1 :=
  let main_v0 : IVec S6x384 32 := iotaInDim S6x384 32 1
  let main_v1 : IVec S6x1 32 := (extractStridedSlice S6x1 ![0, 0] · slices_S6x384_S6x1_0_0) main_arg5
  let main_v2 : IVec S6x384 32 := broadcastInDim S6x384 ![0, 1] bcast_S6x1_S6x384_0_1 main_v1
  let main_v3 : IVec S6x384 32 := addi main_v2 main_v0
  let main_v4 : IVec S6x384 1 := cmpi .eq main_arg5 main_v3
  let main_c : IVec S_ 1 := constantI S_ 1 1#1
  let main_v5 : IVec S_ 1 := (fun x v => Host.reduce IntOp.andi x v reducesTo_S6x384_S_d0_1 h_S_) main_v4 main_c
  let main_v6 : FVec F S128 .f32 := Host.absf main_arg3
  let main_cst : FVec F S_ .f32 := constant S_ .f32 0x5F800000#32
  let main_v7 : FVec F S128 .f32 := broadcastInDim S128 ![] bcast_S_S128 main_cst
  let main_v8 : IVec S128 1 := cmpf .ole main_v6 main_v7
  let main_c_0 : IVec S_ 1 := constantI S_ 1 1#1
  let main_v9 : IVec S_ 1 := (fun x v => Host.reduce IntOp.andi x v reducesTo_S128_S_d0 h_S_) main_v8 main_c_0
  let main_v10 : IVec S_ 1 := andi main_v5 main_v9
  let main_v11 : FVec F S128 .f32 := Host.absf main_arg4
  let main_cst_1 : FVec F S_ .f32 := constant S_ .f32 0x5F800000#32
  let main_v12 : FVec F S128 .f32 := broadcastInDim S128 ![] bcast_S_S128 main_cst_1
  let main_v13 : IVec S128 1 := cmpf .ole main_v11 main_v12
  let main_c_2 : IVec S_ 1 := constantI S_ 1 1#1
  let main_v14 : IVec S_ 1 := (fun x v => Host.reduce IntOp.andi x v reducesTo_S128_S_d0 h_S_) main_v13 main_c_2
  let main_v15 : IVec S_ 1 := andi main_v10 main_v14
  main_v15
-- ==== Kernel.lean ====
abbrev S6x384x2048 : Shape := ⟨3, ![6, 384, 2048]⟩
abbrev S128x2048 : Shape := ⟨2, ![128, 2048]⟩
abbrev S16 : Shape := ⟨1, ![16]⟩
abbrev S128 : Shape := ⟨1, ![128]⟩
abbrev S6x384 : Shape := ⟨2, ![6, 384]⟩
abbrev S2304x2048 : Shape := ⟨2, ![2304, 2048]⟩
abbrev S1x128 : Shape := ⟨2, ![1, 128]⟩
abbrev S2304x128 : Shape := ⟨2, ![2304, 128]⟩
abbrev S6x4x384 : Shape := ⟨3, ![6, 4, 384]⟩
abbrev S128x128 : Shape := ⟨2, ![128, 128]⟩
abbrev S32x128 : Shape := ⟨2, ![32, 128]⟩
abbrev S128x256 : Shape := ⟨2, ![128, 256]⟩
abbrev S1 : Shape := ⟨1, ![1]⟩
abbrev S2 : Shape := ⟨1, ![2]⟩
abbrev S3 : Shape := ⟨1, ![3]⟩
abbrev S4 : Shape := ⟨1, ![4]⟩
abbrev S_ : Shape := ⟨0, ![]⟩
abbrev S256x2048 : Shape := ⟨2, ![256, 2048]⟩
abbrev S512x2048 : Shape := ⟨2, ![512, 2048]⟩
abbrev S768x2048 : Shape := ⟨2, ![768, 2048]⟩
abbrev S256x256 : Shape := ⟨2, ![256, 256]⟩
abbrev S1x1 : Shape := ⟨2, ![1, 1]⟩
abbrev S64x128 : Shape := ⟨2, ![64, 128]⟩
abbrev S4x128 : Shape := ⟨2, ![4, 128]⟩
abbrev S1x4x128 : Shape := ⟨3, ![1, 4, 128]⟩
abbrev S6x384x128 : Shape := ⟨3, ![6, 384, 128]⟩
abbrev S6x384x4 : Shape := ⟨3, ![6, 384, 4]⟩

abbrev nBuf : Space → Nat
  | .hbm => 13
  | .vmem => 11
  | .smem => 2
  | _ => 0

abbrev bufTy : (tb : Table) → Fin (tcTables nBuf tb) → BufTy
  | .hbm, ⟨0, _⟩ => ⟨S6x384x2048, .bf16⟩
  | .hbm, ⟨1, _⟩ => ⟨S128x2048, .fp8e4m3⟩
  | .hbm, ⟨2, _⟩ => ⟨S16, .f32⟩
  | .hbm, ⟨3, _⟩ => ⟨S128, .f32⟩
  | .hbm, ⟨4, _⟩ => ⟨S128, .f32⟩
  | .hbm, ⟨5, _⟩ => ⟨S6x384, .i32⟩
  | .hbm, ⟨6, _⟩ => ⟨S2304x2048, .bf16⟩
  | .hbm, ⟨7, _⟩ => ⟨S1x128, .f32⟩
  | .hbm, ⟨8, _⟩ => ⟨S1x128, .f32⟩
  | .hbm, ⟨9, _⟩ => ⟨S2304x128, .fp8e4m3⟩
  | .hbm, ⟨10, _⟩ => ⟨S6x4x384, .i8⟩
  | .hbm, ⟨11, _⟩ => ⟨S6x384x128, .fp8e4m3⟩
  | .hbm, ⟨12, _⟩ => ⟨S6x384x4, .i8⟩
  | .local _ .vmem, ⟨0, _⟩ => ⟨S2304x2048, .bf16⟩
  | .local _ .vmem, ⟨1, _⟩ => ⟨S128x2048, .fp8e4m3⟩
  | .local _ .vmem, ⟨2, _⟩ => ⟨S128x2048, .bf16⟩
  | .local _ .vmem, ⟨3, _⟩ => ⟨S2304x128, .fp8e4m3⟩
  | .local _ .vmem, ⟨4, _⟩ => ⟨S6x4x384, .i8⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S32x128, .f32⟩
  | .local _ .vmem, ⟨10, _⟩ => ⟨S128x256, .bf16⟩
  | .local _ .smem, ⟨0, _⟩ => ⟨S6x384, .i32⟩
  | .local _ .smem, ⟨1, _⟩ => ⟨S16, .f32⟩
  | _, _ => ⟨S6x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.smem, 0, rfl⟩
abbrev cc0_scratch12 : Ref sig .tc := ⟨.smem, 1, rfl⟩

abbrev nD : Nat := 1
abbrev τ : Topo := Topo.v7x

variable {F : FTy → Type} [FloatOps F]

abbrev grid0 : Pipeline.Grid := .none
-- ==== ReferenceIdeal.lean ====
abbrev S6x384x2048 : Shape := ⟨3, ![6, 384, 2048]⟩
abbrev S128x2048 : Shape := ⟨2, ![128, 2048]⟩
abbrev S16 : Shape := ⟨1, ![16]⟩
abbrev S128 : Shape := ⟨1, ![128]⟩
abbrev S6x384 : Shape := ⟨2, ![6, 384]⟩
abbrev S2304x2048 : Shape := ⟨2, ![2304, 2048]⟩
abbrev S16x1 : Shape := ⟨2, ![16, 1]⟩
abbrev S16x128 : Shape := ⟨2, ![16, 128]⟩
abbrev S1x2048 : Shape := ⟨2, ![1, 2048]⟩
abbrev S1x128 : Shape := ⟨2, ![1, 128]⟩
abbrev S2304x1 : Shape := ⟨2, ![2304, 1]⟩
abbrev S2304x128 : Shape := ⟨2, ![2304, 128]⟩
abbrev S2304x4 : Shape := ⟨2, ![2304, 4]⟩
abbrev S2304 : Shape := ⟨1, ![2304]⟩
abbrev S1x32 : Shape := ⟨2, ![1, 32]⟩
abbrev S2304x32 : Shape := ⟨2, ![2304, 32]⟩
abbrev S2304x64 : Shape := ⟨2, ![2304, 64]⟩
abbrev S128x128 : Shape := ⟨2, ![128, 128]⟩
abbrev S1x256 : Shape := ⟨2, ![1, 256]⟩
abbrev S2304x256 : Shape := ⟨2, ![2304, 256]⟩
abbrev S6x384x128 : Shape := ⟨3, ![6, 384, 128]⟩
abbrev S6x384x4 : Shape := ⟨3, ![6, 384, 4]⟩

abbrev nBuf : Space → Nat
  | .hbm => 17
  | .vmem => 8
  | .smem => 0
  | _ => 0

abbrev bufTy : (tb : Table) → Fin (tcTables nBuf tb) → BufTy
  | .hbm, ⟨0, _⟩ => ⟨S6x384x2048, .bf16⟩
  | .hbm, ⟨1, _⟩ => ⟨S128x2048, .fp8e4m3⟩
  | .hbm, ⟨2, _⟩ => ⟨S16, .f32⟩
  | .hbm, ⟨3, _⟩ => ⟨S128, .f32⟩
  | .hbm, ⟨4, _⟩ => ⟨S128, .f32⟩
  | .hbm, ⟨5, _⟩ => ⟨S6x384, .i32⟩
  | .hbm, ⟨6, _⟩ => ⟨S2304x2048, .bf16⟩
  | .hbm, ⟨7, _⟩ => ⟨S16x1, .f32⟩
  | .hbm, ⟨8, _⟩ => ⟨S16x128, .f32⟩
  | .hbm, ⟨9, _⟩ => ⟨S1x2048, .f32⟩
  | .hbm, ⟨10, _⟩ => ⟨S1x128, .f32⟩
  | .hbm, ⟨11, _⟩ => ⟨S1x128, .f32⟩
  | .hbm, ⟨12, _⟩ => ⟨S2304x1, .i32⟩
  | .hbm, ⟨13, _⟩ => ⟨S2304x128, .fp8e4m3⟩
  | .hbm, ⟨14, _⟩ => ⟨S2304x4, .i8⟩
  | .hbm, ⟨15, _⟩ => ⟨S6x384x128, .fp8e4m3⟩
  | .hbm, ⟨16, _⟩ => ⟨S6x384x4, .i8⟩
  | .local _ .vmem, ⟨0, _⟩ => ⟨S2304x2048, .bf16⟩
  | .local _ .vmem, ⟨1, _⟩ => ⟨S128x2048, .fp8e4m3⟩
  | .local _ .vmem, ⟨2, _⟩ => ⟨S1x2048, .f32⟩
  | .local _ .vmem, ⟨3, _⟩ => ⟨S1x128, .f32⟩
  | .local _ .vmem, ⟨4, _⟩ => ⟨S1x128, .f32⟩
  | .local _ .vmem, ⟨5, _⟩ => ⟨S2304x1, .i32⟩
  | .local _ .vmem, ⟨6, _⟩ => ⟨S2304x128, .fp8e4m3⟩
  | .local _ .vmem, ⟨7, _⟩ => ⟨S2304x4, .i8⟩
  | _, _ => ⟨S6x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x4 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/-
  The kernel's body, run once at symbolic operands: from the six operands in HBM at given contents, the two results and
  the scratch buffers at anything and every transfer semaphore at zero, it reaches its return with the operands as they
  were, the semaphores at zero again and each result at a term of the operands' contents that the run finds.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384
set_option maxHeartbeats 0
set_option sl_exec.dmaWindow true

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-! ## The operands: six arrays read, two written, thirteen scratch buffers -/

abbrev hb0 : Memref sig .tc .hbm S2304x2048 .bf16 := Memref.whole main_v0
abbrev hb1 : Memref sig .tc .hbm S128x2048 .fp8e4m3 := Memref.whole main_arg1
abbrev hb2 : Memref sig .tc .hbm S16 .f32 := Memref.whole main_arg2
abbrev hb3 : Memref sig .tc .hbm S1x128 .f32 := Memref.whole main_v1
abbrev hb4 : Memref sig .tc .hbm S1x128 .f32 := Memref.whole main_v2
abbrev hb5 : Memref sig .tc .hbm S6x384 .i32 := Memref.whole main_arg5
abbrev ob0 : Memref sig .tc .hbm S2304x128 .fp8e4m3 := Memref.whole main_v3_0
abbrev ob1 : Memref sig .tc .hbm S6x4x384 .i8 := Memref.whole main_v3_1
abbrev sc0 : Memref sig .tc .vmem S2304x2048 .bf16 := Memref.whole cc0_scratch0
abbrev sc1 : Memref sig .tc .vmem S128x2048 .fp8e4m3 := Memref.whole cc0_scratch1
abbrev sc2 : Memref sig .tc .vmem S128x2048 .bf16 := Memref.whole cc0_scratch2
abbrev sc3 : Memref sig .tc .vmem S2304x128 .fp8e4m3 := Memref.whole cc0_scratch3
abbrev sc4 : Memref sig .tc .vmem S6x4x384 .i8 := Memref.whole cc0_scratch4
abbrev sc5 : Memref sig .tc .vmem S1x128 .f32 := Memref.whole cc0_scratch5
abbrev sc6 : Memref sig .tc .vmem S1x128 .f32 := Memref.whole cc0_scratch6
abbrev sc7 : Memref sig .tc .vmem S128x128 .f32 := Memref.whole cc0_scratch7
abbrev sc8 : Memref sig .tc .vmem S128x128 .f32 := Memref.whole cc0_scratch8
abbrev sc9 : Memref sig .tc .vmem S32x128 .f32 := Memref.whole cc0_scratch9
abbrev sc10 : Memref sig .tc .vmem S128x256 .bf16 := Memref.whole cc0_scratch10
abbrev sc11 : Memref sig .tc .smem S6x384 .i32 := Memref.whole cc0_scratch11
abbrev sc12 : Memref sig .tc .smem S16 .f32 := Memref.whole cc0_scratch12

/-- Memref `M`'s buffer on core `c`: the type of its contents, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The run: from the operands held whole to its return, whatever the results and the scratch buffers hold. -/
theorem kernelRun (c : Dev nD) (f0 : Bf (F := F) c hb0) (f1 : Bf (F := F) c hb1) (f2 : Bf (F := F) c hb2) (f3 : Bf (F := F) c hb3) (f4 : Bf (F := F) c hb4) (f5 : Bf (F := F) c hb5) (W : Waits sig Unit) (K : PUnit → sProp 𝕄) :
    iprop(pt c hb0 f0 ∗ pt c hb1 f1 ∗ pt c hb2 f2 ∗ pt c hb3 f3 ∗ pt c hb4 f4 ∗ pt c hb5 f5 ∗ (∃ f, pt c ob0 f)
            ∗ (∃ f, pt c ob1 f) ∗ (∃ f, pt c sc0 f) ∗ (∃ f, pt c sc1 f) ∗ (∃ f, pt c sc2 f) ∗ (∃ f, pt c sc3 f)
            ∗ (∃ f, pt c sc4 f) ∗ (∃ f, pt c sc5 f) ∗ (∃ f, pt c sc6 f) ∗ (∃ f, pt c sc7 f) ∗ (∃ f, pt c sc8 f)
            ∗ (∃ f, pt c sc9 f) ∗ (∃ f, pt c sc10 f) ∗ (∃ f, pt c sc11 f) ∗ (∃ f, pt c sc12 f)
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ owes (c : Thread nD τ) 0 W
        ∗ (iprop(pt c hb0 f0 ∗ pt c hb1 f1 ∗ pt c hb2 f2 ∗ pt c hb3 f3 ∗ pt c hb4 f4 ∗ pt c hb5 f5 ∗ (∃ f, pt c ob0 f)
            ∗ (∃ f, pt c ob1 f) ∗ (∃ f, pt c sc0 f) ∗ (∃ f, pt c sc1 f) ∗ (∃ f, pt c sc2 f) ∗ (∃ f, pt c sc3 f)
            ∗ (∃ f, pt c sc4 f) ∗ (∃ f, pt c sc5 f) ∗ (∃ f, pt c sc6 f) ∗ (∃ f, pt c sc7 f) ∗ (∃ f, pt c sc8 f)
            ∗ (∃ f, pt c sc9 f) ∗ (∃ f, pt c sc10 f) ∗ (∃ f, pt c sc11 f) ∗ (∃ f, pt c sc12 f)
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ (∃ W', owes (c : Thread nD τ) 0 W')) -∗ K ⟨⟩))
      ⊢ wp frame (wpE (defs₀ (F := F)) Variants.none c none) Set.univ
          (cc0_indexer_key_write hb0 (Memref.isWhole_whole _) hb1 (Memref.isWhole_whole _) hb2 (Memref.isWhole_whole _) hb3 (Memref.isWhole_whole _) hb4 (Memref.isWhole_whole _) hb5 (Memref.isWhole_whole _) ob0 (Memref.isWhole_whole _) ob1 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) cc0_scoped0 cc0_scoped1 cc0_scoped2 cc0_scoped3 cc0_scoped4) K := by
  iintro ⟨H0, H1, H2, H3, H4, H5, ⟨%g0, O0⟩, ⟨%g1, O1⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, D0, D1, D2, D3, D4, D5, D6, D7, D8, D9, D10, HW, Hk⟩
  sl_exec_parts!
  sl_step
  iapply Hk
  isplitl [H0]; · iexact H0
  isplitl [H1]; · iexact H1
  isplitl [H2]; · iexact H2
  isplitl [H3]; · iexact H3
  isplitl [H4]; · iexact H4
  isplitl [H5]; · iexact H5
  isplitl [O0]; · iexists _; iexact O0
  isplitl [O1]; · iexists _; iexact O1
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  iexists _; iexact HW

end Cert.Kernel.Hand

end
-- ==== Proof.Frame.lean ====
/-
  The kernel's frame: the program terminates, nothing faults, its six argument arrays end unchanged and every semaphore
  counter ends at zero. The body is one run (Body); here its buffers and transfer semaphores are the launch's invariant.
-/
module

public import proofs.«01_k».proof.Proof.Gen.Kernel.Frame
public import proofs.«01_k».proof.Proof.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant's parts, listed -/

/-- The body's eleven transfer semaphores. -/
abbrev osem0 : Fin 11 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5, 6, 7, 8, 9, 10] (by decide) (by decide)]; rfl

/-- The arrays the body's transfers read. -/
def H0 : Finset (Ref sig .tc) := {main_v0, main_arg1, main_arg2, main_v1, main_v2, main_arg5}
theorem H0_sub : H0 ⊆ Pipeline.restRefs sig cfg0.spec := by decide
theorem hbmPts0_eq (c : Dev nD) :
    (bigSep H0 (fun b => ((c : Thread nD τ).loc b) ↦{fullShare} V m c b) : sProp 𝕄)
      = iprop(pt c hb0 (V m c main_v0) ∗ pt c hb1 (V m c main_arg1) ∗ pt c hb2 (V m c main_arg2) ∗ pt c hb3 (V m c main_v1) ∗ pt c hb4 (V m c main_v2) ∗ pt c hb5 (V m c main_arg5)) := by
  rw [show H0 = {main_v0, main_arg1, main_arg2, main_v1, main_v2, main_arg5} from rfl, BI.bigSep_eq_bigSepL_of_eq [main_v0, main_arg1, main_arg2, main_v1, main_v2, main_arg5] (by decide) (by decide)]; rfl

/-- The two results. -/
def R0 : Finset (Ref sig .tc) := {main_v3_0, main_v3_1}
theorem R0_sub : R0 ⊆ Pipeline.restRefs sig cfg0.spec \ H0 := by decide
theorem ownedPts0_eq (c : Dev nD) :
    (Pipeline.owned R0 c : sProp 𝕄) = iprop((∃ f, pt c ob0 f) ∗ (∃ f, pt c ob1 f)) := by
  unfold Pipeline.owned; rw [BI.bigSep_eq_bigSepL_of_eq [main_v3_0, main_v3_1] (by decide) (by decide)]; rfl

theorem PhiDR0_eq (c : Dev nD) :
    (Pipeline.ΦDR osem0 cfg0.spec H0 R0 (V m) c : sProp 𝕄)
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0)
          ∗ iprop(pt c hb0 (V m c main_v0) ∗ pt c hb1 (V m c main_arg1) ∗ pt c hb2 (V m c main_arg2) ∗ pt c hb3 (V m c main_v1) ∗ pt c hb4 (V m c main_v2) ∗ pt c hb5 (V m c main_arg5))
          ∗ iprop((∃ f, pt c ob0 f) ∗ (∃ f, pt c ob1 f))) := by
  rw [Pipeline.ΦDR_eq, scopedRest0_eq, ownSems00_eq, hbmPts0_eq, ownedPts0_eq]

/-! ## The proof data and the body obligation -/

/-- The proof data of the one launch: no window, the invariant above, nothing owed. -/
def dats (_ : Fin 1) (c : Dev nD) : Dat τ (Elt F) Unit ℕ (Pipeline.UD sig nD τ) ℕ cfg0 c where
  A w := V m c (Pipeline.arrRef cfg0.spec w)
  after w t := w.elim0
  Φ _ := Pipeline.ΦDR osem0 cfg0.spec H0 R0 (V m) c
  q _ := fullShare
  owed _ := 0

theorem A_eq (c : Dev nD) (w : Fin cfg0.W) : (dats m 0 c).A w = V m c (Pipeline.arrRef cfg0.spec w) := rfl

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10, S11, S12⟩, Hg, ⟨D0, D1, D2, D3, D4, D5, D6, D7, D8, D9, D10⟩, ⟨H0, H1, H2, H3, H4, H5⟩, ⟨O0, O1⟩⟩, ⟨%W, -, HW⟩⟩
  iapply (kernelRun c (V m c main_v0) (V m c main_arg1) (V m c main_arg2) (V m c main_v1) (V m c main_v2) (V m c main_arg5) W _)
  isplitl [H0]; · iexact H0
  isplitl [H1]; · iexact H1
  isplitl [H2]; · iexact H2
  isplitl [H3]; · iexact H3
  isplitl [H4]; · iexact H4
  isplitl [H5]; · iexact H5
  isplitl [O0]; · iexact O0
  isplitl [O1]; · iexact O1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [HW]; · iexact HW
  iintro ⟨H0, H1, H2, H3, H4, H5, O0, O1, S0, S1, S2, S3, S4, S5, S6, S7, S8, S9, S10, S11, S12, D0, D1, D2, D3, D4, D5, D6, D7, D8, D9, D10, ⟨%W', HW'⟩⟩
  isplitl [H0 H1 H2 H3 H4 H5 O0 O1 S0 S1 S2 S3 S4 S5 S6 S7 S8 S9 S10 S11 S12 D0 D1 D2 D3 D4 D5 D6 D7 D8 D9 D10 Hg]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hg]; · iexact Hg
    isplitl [D0 D1 D2 D3 D4 D5 D6 D7 D8 D9 D10]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      iexact D10
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [O0]; · iexact O0
    iexact O1
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty, defs₀_row]
  refine triple_restated (sound_body m c t) rfl ?_ fun _ => ?_
  · unfold bodyPre; iintro ⟨A, B, -⟩
    isplitl [A]; · iexact A
    iexact B
  · unfold bodyPost; iintro ⟨A, B⟩
    isplitl [A]; · iexact A
    isplitl [B]; · iexact B
    iempintro

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the host operations after the call write: the two results, in their final shapes. -/
def T0 : Finset (Ref sig .tc) := {main_v4, main_v5}
theorem sfx_T : ∀ ops ∈ ([hostOps1] : List (List (HloOp τ sig (Elt F)))), ∀ op ∈ ops, ∀ b : Ref sig .tc, Proc.devRef .tc b ∈ op.writes → b ∈ T0 := by
  intro ops hops op hop b hb
  by_contra hn
  have h4 : b ≠ main_v4 := fun e => hn (by rw [e]; decide)
  have h5 : b ≠ main_v5 := fun e => hn (by rw [e]; decide)
  obtain rfl := List.mem_singleton.1 hops
  simp only [hostOps1, List.mem_cons, List.mem_nil_iff, or_false] at hop
  rcases hop with rfl | rfl
  · simp only [StableHlo.reshape_writes, Finset.mem_singleton] at hb
    exact StableHlo.devRef_ne_of_ne h4 hb
  · simp only [StableHlo.unary_writes, Finset.mem_singleton] at hb
    exact StableHlo.devRef_ne_of_ne h5 hb

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T) (hmain := hmainD m Variants.none) (hA := A_eq m)
    (hin := fun _ => .rfl) (hout := fun _ => .rfl)

/-- The frame, at any float semantics. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.RunIdeal.lean ====
/-
  The kernel's body, run once at symbolic operands: from the six operands in HBM at given contents, the two results and
  the scratch buffers at anything and every transfer semaphore at zero, it reaches its return with the operands as they
  were, the semaphores at zero again and each result at a term of the operands' contents that the run finds.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384
set_option maxHeartbeats 0
set_option sl_exec.dmaWindow true

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-! ## The operands: six arrays read, two written, thirteen scratch buffers -/

abbrev hb0 : Memref sig .tc .hbm S2304x2048 .bf16 := Memref.whole main_v0
abbrev hb1 : Memref sig .tc .hbm S128x2048 .fp8e4m3 := Memref.whole main_arg1
abbrev hb2 : Memref sig .tc .hbm S16 .f32 := Memref.whole main_arg2
abbrev hb3 : Memref sig .tc .hbm S1x128 .f32 := Memref.whole main_v1
abbrev hb4 : Memref sig .tc .hbm S1x128 .f32 := Memref.whole main_v2
abbrev hb5 : Memref sig .tc .hbm S6x384 .i32 := Memref.whole main_arg5
abbrev ob0 : Memref sig .tc .hbm S2304x128 .fp8e4m3 := Memref.whole main_v3_0
abbrev ob1 : Memref sig .tc .hbm S6x4x384 .i8 := Memref.whole main_v3_1
abbrev sc0 : Memref sig .tc .vmem S2304x2048 .bf16 := Memref.whole cc0_scratch0
abbrev sc1 : Memref sig .tc .vmem S128x2048 .fp8e4m3 := Memref.whole cc0_scratch1
abbrev sc2 : Memref sig .tc .vmem S128x2048 .bf16 := Memref.whole cc0_scratch2
abbrev sc3 : Memref sig .tc .vmem S2304x128 .fp8e4m3 := Memref.whole cc0_scratch3
abbrev sc4 : Memref sig .tc .vmem S6x4x384 .i8 := Memref.whole cc0_scratch4
abbrev sc5 : Memref sig .tc .vmem S1x128 .f32 := Memref.whole cc0_scratch5
abbrev sc6 : Memref sig .tc .vmem S1x128 .f32 := Memref.whole cc0_scratch6
abbrev sc7 : Memref sig .tc .vmem S128x128 .f32 := Memref.whole cc0_scratch7
abbrev sc8 : Memref sig .tc .vmem S128x128 .f32 := Memref.whole cc0_scratch8
abbrev sc9 : Memref sig .tc .vmem S32x128 .f32 := Memref.whole cc0_scratch9
abbrev sc10 : Memref sig .tc .vmem S128x256 .bf16 := Memref.whole cc0_scratch10
abbrev sc11 : Memref sig .tc .smem S6x384 .i32 := Memref.whole cc0_scratch11
abbrev sc12 : Memref sig .tc .smem S16 .f32 := Memref.whole cc0_scratch12

/-- Memref `M`'s buffer on core `c`: the type of its contents, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The run: the two results' final contents, with the proof that the body ends there. -/
noncomputable def kernelRun (c : Dev nD) (f0 : Bf (F := F) c hb0) (f1 : Bf (F := F) c hb1) (f2 : Bf (F := F) c hb2) (f3 : Bf (F := F) c hb3) (f4 : Bf (F := F) c hb4) (f5 : Bf (F := F) c hb5)
    (g0 : Bf (F := F) c ob0) (g1 : Bf (F := F) c ob1)
    (s0 : Bf (F := F) c sc0) (s1 : Bf (F := F) c sc1) (s2 : Bf (F := F) c sc2) (s3 : Bf (F := F) c sc3) (s4 : Bf (F := F) c sc4) (s5 : Bf (F := F) c sc5) (s6 : Bf (F := F) c sc6) (s7 : Bf (F := F) c sc7) (s8 : Bf (F := F) c sc8) (s9 : Bf (F := F) c sc9) (s10 : Bf (F := F) c sc10) (s11 : Bf (F := F) c sc11) (s12 : Bf (F := F) c sc12) :
    { W2 : Bf (F := F) c ob0 × Bf (F := F) c ob1 //
      ∀ (W : Waits sig Unit) (K : PUnit → sProp 𝕄),
        iprop(pt c hb0 f0 ∗ pt c hb1 f1 ∗ pt c hb2 f2 ∗ pt c hb3 f3 ∗ pt c hb4 f4 ∗ pt c hb5 f5 ∗ pt c ob0 g0 ∗ pt c ob1 g1
            ∗ pt c sc0 s0 ∗ pt c sc1 s1 ∗ pt c sc2 s2 ∗ pt c sc3 s3 ∗ pt c sc4 s4 ∗ pt c sc5 s5 ∗ pt c sc6 s6
            ∗ pt c sc7 s7 ∗ pt c sc8 s8 ∗ pt c sc9 s9 ∗ pt c sc10 s10 ∗ pt c sc11 s11 ∗ pt c sc12 s12
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ owes (c : Thread nD τ) 0 W
            ∗ (iprop(pt c hb0 f0 ∗ pt c hb1 f1 ∗ pt c hb2 f2 ∗ pt c hb3 f3 ∗ pt c hb4 f4 ∗ pt c hb5 f5 ∗ pt c ob0 W2.1
            ∗ pt c ob1 W2.2 ∗ (∃ f, pt c sc0 f) ∗ (∃ f, pt c sc1 f) ∗ (∃ f, pt c sc2 f) ∗ (∃ f, pt c sc3 f)
            ∗ (∃ f, pt c sc4 f) ∗ (∃ f, pt c sc5 f) ∗ (∃ f, pt c sc6 f) ∗ (∃ f, pt c sc7 f) ∗ (∃ f, pt c sc8 f)
            ∗ (∃ f, pt c sc9 f) ∗ (∃ f, pt c sc10 f) ∗ (∃ f, pt c sc11 f) ∗ (∃ f, pt c sc12 f)
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ (∃ W', owes (c : Thread nD τ) 0 W')) -∗ K ⟨⟩))
          ⊢ wp frame (wpE (defs₀ (F := F)) Variants.none c none) Set.univ
              (cc0_indexer_key_write hb0 (Memref.isWhole_whole _) hb1 (Memref.isWhole_whole _) hb2 (Memref.isWhole_whole _) hb3 (Memref.isWhole_whole _) hb4 (Memref.isWhole_whole _) hb5 (Memref.isWhole_whole _) ob0 (Memref.isWhole_whole _) ob1 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) cc0_scoped0 cc0_scoped1 cc0_scoped2 cc0_scoped3 cc0_scoped4) K } := by
  refine ⟨⟨?_, ?_⟩, fun W K => ?run⟩
  case run =>
    iintro ⟨H0, H1, H2, H3, H4, H5, O0, O1, S0, S1, S2, S3, S4, S5, S6, S7, S8, S9, S10, S11, S12, D0, D1, D2, D3, D4, D5, D6, D7, D8, D9, D10, HW, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [O0]; · iexact O0
    isplitl [O1]; · iexact O1
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    iexists _; iexact HW

end Cert.KernelIdeal.Hand

end
-- ==== Proof.FrameIdeal.lean ====
/-
  The kernel's frame: the program terminates, nothing faults, its six argument arrays end unchanged and every semaphore
  counter ends at zero. The body is one run (RunIdeal); here its buffers and transfer semaphores are the launch's invariant.
-/
module

public import proofs.«01_k».proof.Proof.Gen.KernelIdeal.Frame
public import proofs.«01_k».proof.Proof.RunIdeal
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant's parts, listed -/

/-- The body's eleven transfer semaphores. -/
abbrev osem0 : Fin 11 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5, 6, 7, 8, 9, 10] (by decide) (by decide)]; rfl

/-- The arrays the body's transfers read. -/
def H0 : Finset (Ref sig .tc) := {main_v0, main_arg1, main_arg2, main_v1, main_v2, main_arg5}
theorem H0_sub : H0 ⊆ Pipeline.restRefs sig cfg0.spec := by decide
theorem hbmPts0_eq (c : Dev nD) :
    (bigSep H0 (fun b => ((c : Thread nD τ).loc b) ↦{fullShare} V m c b) : sProp 𝕄)
      = iprop(pt c hb0 (V m c main_v0) ∗ pt c hb1 (V m c main_arg1) ∗ pt c hb2 (V m c main_arg2) ∗ pt c hb3 (V m c main_v1) ∗ pt c hb4 (V m c main_v2) ∗ pt c hb5 (V m c main_arg5)) := by
  rw [show H0 = {main_v0, main_arg1, main_arg2, main_v1, main_v2, main_arg5} from rfl, BI.bigSep_eq_bigSepL_of_eq [main_v0, main_arg1, main_arg2, main_v1, main_v2, main_arg5] (by decide) (by decide)]; rfl

/-- The two results. -/
def R0 : Finset (Ref sig .tc) := {main_v3_0, main_v3_1}
theorem R0_sub : R0 ⊆ Pipeline.restRefs sig cfg0.spec \ H0 := by decide
theorem ownedPts0_eq (c : Dev nD) :
    (Pipeline.owned R0 c : sProp 𝕄) = iprop((∃ f, pt c ob0 f) ∗ (∃ f, pt c ob1 f)) := by
  unfold Pipeline.owned; rw [BI.bigSep_eq_bigSepL_of_eq [main_v3_0, main_v3_1] (by decide) (by decide)]; rfl

/-- The invariant: the body's buffers and semaphores, what `X` says besides, the results at contents of which `K` holds. -/
def PhiK (X : Dev nD → sProp 𝕄) (K : (c : Dev nD) → Bf (F := F) c ob0 → Bf (F := F) c ob1 → Prop) (c : Dev nD) : sProp 𝕄 :=
  iprop(Pipeline.scopedRest (Ix := Unit) (Name := ℕ) (U := Pipeline.UD sig nD τ) (Lvl := ℕ) (Val := Elt F) cfg0.spec c ∗ X c
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V m c b) ∗ (∃ f g, iprop(⌜K c f g⌝ ∗ pt c ob0 f ∗ pt c ob1 g)))

/-- The generator's register, at anything. -/
def reg (c : Dev nD) : sProp 𝕄 := iprop(∃ r, prngReg c r)
/-- Nothing. -/
def nothing (_ : Dev nD) : sProp 𝕄 := iprop(emp)

theorem PhiK_eq (X : Dev nD → sProp 𝕄) (K : (c : Dev nD) → Bf (F := F) c ob0 → Bf (F := F) c ob1 → Prop) (c : Dev nD) :
    PhiK m X K c
      = iprop(iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f) ∗ (∃ f, pt c sc10 f) ∗ (∃ f, pt c sc11 f) ∗ (∃ f, pt c sc12 f))
          ∗ X c
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0)
          ∗ iprop(pt c hb0 (V m c main_v0) ∗ pt c hb1 (V m c main_arg1) ∗ pt c hb2 (V m c main_arg2) ∗ pt c hb3 (V m c main_v1) ∗ pt c hb4 (V m c main_v2) ∗ pt c hb5 (V m c main_arg5))
          ∗ (∃ f g, iprop(⌜K c f g⌝ ∗ pt c ob0 f ∗ pt c ob1 g))) := by
  unfold PhiK
  rw [scopedRest0_eq, ownSems00_eq, hbmPts0_eq]

/-- Any contents. -/
abbrev anyK : (c : Dev nD) → Bf (F := F) c ob0 → Bf (F := F) c ob1 → Prop := fun _ _ _ => True

theorem PhiK_of_owned (c : Dev nD) : (Pipeline.ΦDR osem0 cfg0.spec H0 R0 (V m) c : sProp 𝕄) ⊢ PhiK m reg anyK c := by
  unfold Pipeline.ΦDR PhiK reg
  rw [ownedPts0_eq, Pipeline.ΦD_eq]
  iintro ⟨⟨HS, HG, HO, HH⟩, ⟨%f, Hf⟩, ⟨%g, Hg⟩⟩
  isplitl [HS]; · iexact HS
  isplitl [HG]; · iexact HG
  isplitl [HO]; · iexact HO
  isplitl [HH]; · iexact HH
  iexists f; iexists g
  isplitr; · ipureintro; trivial
  isplitl [Hf]; · iexact Hf
  iexact Hg

theorem owned_of_PhiK (K : (c : Dev nD) → Bf (F := F) c ob0 → Bf (F := F) c ob1 → Prop) (c : Dev nD) :
    PhiK m reg K c ⊢ (Pipeline.ΦDR osem0 cfg0.spec H0 R0 (V m) c : sProp 𝕄) := by
  unfold Pipeline.ΦDR PhiK reg
  rw [ownedPts0_eq, Pipeline.ΦD_eq]
  iintro ⟨HS, HG, HO, HH, ⟨%f, %g, -, Hf, Hg⟩⟩
  isplitl [HS HG HO HH]
  · isplitl [HS]; · iexact HS
    isplitl [HG]; · iexact HG
    isplitl [HO]; · iexact HO
    iexact HH
  isplitl [Hf]; · iexists f; iexact Hf
  iexists g; iexact Hg

/-! ## The proof data and the body obligation -/

/-- The proof data of the one launch: no window, the invariant above, at the end with `K`, nothing owed. -/
def dats (X : Dev nD → sProp 𝕄) (K : (c : Dev nD) → Bf (F := F) c ob0 → Bf (F := F) c ob1 → Prop) (_ : Fin 1) (c : Dev nD) : Dat τ (Elt F) Unit ℕ (Pipeline.UD sig nD τ) ℕ cfg0 c where
  A w := V m c (Pipeline.arrRef cfg0.spec w)
  after w t := w.elim0
  Φ t := if t.val = 0 then PhiK m X anyK c else PhiK m X K c
  q _ := fullShare
  owed _ := 0

variable (K : (c : Dev nD) → Bf (F := F) c ob0 → Bf (F := F) c ob1 → Prop)

theorem A_eq (X : Dev nD → sProp 𝕄) (c : Dev nD) (w : Fin cfg0.W) : (dats m X K 0 c).A w = V m c (Pipeline.arrRef cfg0.spec w) := rfl

/-- Whatever the results and the buffers held before, the run's results satisfy `K`. -/
def Ends : Prop := ∀ (c : Dev nD) (g0 : Bf (F := F) c ob0) (g1 : Bf (F := F) c ob1)
    (s0 : Bf (F := F) c sc0) (s1 : Bf (F := F) c sc1) (s2 : Bf (F := F) c sc2) (s3 : Bf (F := F) c sc3) (s4 : Bf (F := F) c sc4) (s5 : Bf (F := F) c sc5) (s6 : Bf (F := F) c sc6)
    (s7 : Bf (F := F) c sc7) (s8 : Bf (F := F) c sc8) (s9 : Bf (F := F) c sc9) (s10 : Bf (F := F) c sc10) (s11 : Bf (F := F) c sc11) (s12 : Bf (F := F) c sc12),
    K c (kernelRun c (V m c main_v0) (V m c main_arg1) (V m c main_arg2) (V m c main_v1) (V m c main_v2) (V m c main_arg5) g0 g1 s0 s1 s2 s3 s4 s5 s6 s7 s8 s9 s10 s11 s12).1.1
      (kernelRun c (V m c main_v0) (V m c main_arg1) (V m c main_arg2) (V m c main_v1) (V m c main_v2) (V m c main_arg5) g0 g1 s0 s1 s2 s3 s4 s5 s6 s7 s8 s9 s10 s11 s12).1.2

def bodyPre (X : Dev nD → sProp 𝕄) (c : Dev nD) (t : Fin cfg0.N) : sProp 𝕄 :=
  iprop((dats m X K 0 c).Φ t.castSucc ∗ (dats m X K 0 c).owesAt () t.castSucc)
def bodyPost (X : Dev nD → sProp 𝕄) (c : Dev nD) (t : Fin cfg0.N) : sProp 𝕄 :=
  iprop((dats m X K 0 c).Φ t.succ ∗ (dats m X K 0 c).owesAt () t.succ)

theorem sound_body (X : Dev nD → sProp 𝕄) (hK : Ends m K) (c : Dev nD) (t : Fin cfg0.N) :
    bodyPre m K X c t ⊢ wp frame (wpE (defs₀ (F := F)) Variants.none c none) Set.univ (bodyAt0 t) (fun _ => bodyPost m K X c t) := by
  unfold bodyPre bodyPost bodyAt0
  have ht : t.val = 0 := Nat.lt_one_iff.1 t.isLt
  rw [show (dats m X K 0 c).Φ t.castSucc = PhiK m X anyK c from if_pos ht, show (dats m X K 0 c).Φ t.succ = PhiK m X K c from (if_neg (Nat.succ_ne_zero t.val) : (if t.val.succ = 0 then PhiK m X anyK c else PhiK m X K c) = PhiK m X K c), PhiK_eq, PhiK_eq]
  unfold Dat.owesAt Pipeline.owesWithin
  rw [show (dats m X K 0 c).owed t.castSucc = 0 from rfl, show (dats m X K 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, Hg, ⟨D0, D1, D2, D3, D4, D5, D6, D7, D8, D9, D10⟩, ⟨H0, H1, H2, H3, H4, H5⟩, ⟨%g0, %g1, -, O0, O1⟩⟩, ⟨%W, -, HW⟩⟩
  iapply ((kernelRun c (V m c main_v0) (V m c main_arg1) (V m c main_arg2) (V m c main_v1) (V m c main_v2) (V m c main_arg5) g0 g1 s0 s1 s2 s3 s4 s5 s6 s7 s8 s9 s10 s11 s12).2 W _)
  isplitl [H0]; · iexact H0
  isplitl [H1]; · iexact H1
  isplitl [H2]; · iexact H2
  isplitl [H3]; · iexact H3
  isplitl [H4]; · iexact H4
  isplitl [H5]; · iexact H5
  isplitl [O0]; · iexact O0
  isplitl [O1]; · iexact O1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [HW]; · iexact HW
  iintro ⟨H0, H1, H2, H3, H4, H5, O0, O1, S0, S1, S2, S3, S4, S5, S6, S7, S8, S9, S10, S11, S12, D0, D1, D2, D3, D4, D5, D6, D7, D8, D9, D10, ⟨%W', HW'⟩⟩
  isplitl [H0 H1 H2 H3 H4 H5 O0 O1 S0 S1 S2 S3 S4 S5 S6 S7 S8 S9 S10 S11 S12 D0 D1 D2 D3 D4 D5 D6 D7 D8 D9 D10 Hg]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hg]; · iexact Hg
    isplitl [D0 D1 D2 D3 D4 D5 D6 D7 D8 D9 D10]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      iexact D10
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexists _
    isplitr; · ipureintro; exact hK c g0 g1 s0 s1 s2 s3 s4 s5 s6 s7 s8 s9 s10 s11 s12
    isplitl [O0]; · iexact O0
    iexact O1
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (X : Dev nD → sProp 𝕄) (hK : Ends m K) (c : Dev nD) : BodyObligation (dats m X K 0 c) (defs₀ (F := F)) Variants.none () Set.univ := fun t => by
  rw [show (Finset.univ : Finset (Fin cfg0.W)) = ∅ from rfl, BI.bigSep_empty, BI.bigSep_empty, defs₀_row]
  refine triple_restated (sound_body m K X hK c t) rfl ?_ fun _ => ?_
  · unfold bodyPre; iintro ⟨A, B, -⟩
    isplitl [A]; · iexact A
    iexact B
  · unfold bodyPost; iintro ⟨A, B⟩
    isplitl [A]; · iexact A
    isplitl [B]; · iexact B
    iempintro

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the host operations after the call write: the two results, in their final shapes. -/
def T0 : Finset (Ref sig .tc) := {main_v4, main_v5}
theorem sfx_T : ∀ ops ∈ ([hostOps1] : List (List (HloOp τ sig (Elt F)))), ∀ op ∈ ops, ∀ b : Ref sig .tc, Proc.devRef .tc b ∈ op.writes → b ∈ T0 := by
  intro ops hops op hop b hb
  by_contra hn
  have h4 : b ≠ main_v4 := fun e => hn (by rw [e]; decide)
  have h5 : b ≠ main_v5 := fun e => hn (by rw [e]; decide)
  obtain rfl := List.mem_singleton.1 hops
  simp only [hostOps1, List.mem_cons, List.mem_nil_iff, or_false] at hop
  rcases hop with rfl | rfl
  · simp only [StableHlo.reshape_writes, Finset.mem_singleton] at hb
    exact StableHlo.devRef_ne_of_ne h4 hb
  · simp only [StableHlo.unary_writes, Finset.mem_singleton] at hb
    exact StableHlo.devRef_ne_of_ne h5 hb

set_option backward.isDefEq.respectTransparency.types false in
theorem run_main : θ_run defs (onTc (τ := τ) (main (F := F))) (s₀ m ρ) (fun r => Pipeline.FramePostR cfgs (dats m reg anyK) 0 (R0 ∪ T0) (V m) r ∧ r.2.sem = fun _ => 0) :=
  Pipeline.θ_run_frame_dmaR_around (Q' := _) cfgs (dats m reg anyK) (0 : Fin 1) launch0 osem0 defs₀ Variants.none ownSemFacts0 H0 R0 T0 H0_sub R0_sub m ρ main
    (hbody := fun c => (body_obligation m anyK reg (fun _ _ _ _ _ _ _ _ _ _ _ _ _ _ _ _ => trivial) c).loose) (hshare := fun c => (dats m reg anyK 0 c).share_full fun _ => rfl)
    (howed := fun _ _ => rfl) (V₀ := V0 m) (opss := [hostOps1]) (hsub := sfx_sub) (hfresh := sfx_fresh) (hkeep := sfx_keeps) (hT := sfx_T) (hmain := hmainD m Variants.none) (hA := A_eq m anyK reg)
    (hin := fun c => PhiK_of_owned m c) (hout := fun c => owned_of_PhiK m anyK c)

/-- The two results at the contents `G`. -/
def atG (G : (c : Dev nD) → (b : Ref sig .tc) → Buf (Elt F) ((c : Thread nD τ).loc b)) : (c : Dev nD) → Bf (F := F) c ob0 → Bf (F := F) c ob1 → Prop :=
  fun c f g => f = G c main_v3_0 ∧ g = G c main_v3_1

theorem pts0_eq (G : (c : Dev nD) → (b : Ref sig .tc) → Buf (Elt F) ((c : Thread nD τ).loc b)) (c : Dev nD) :
    (bigSep R0 (fun b => ((c : Thread nD τ).loc b) ↦{fullShare} G c b) : sProp 𝕄) = iprop(pt c ob0 (G c main_v3_0) ∗ pt c ob1 (G c main_v3_1)) := by
  rw [BI.bigSep_eq_bigSepL_of_eq [main_v3_0, main_v3_1] (by decide) (by decide)]; rfl

theorem PhiK_of_V (c : Dev nD) : (Pipeline.ΦDRV osem0 cfg0.spec H0 R0 (V m) (V m) c : sProp 𝕄) ⊢ PhiK m nothing anyK c := by
  unfold Pipeline.ΦDRV PhiK nothing
  rw [pts0_eq]
  iintro ⟨HS, HO, HH, Hf, Hg⟩
  isplitl [HS]; · iexact HS
  isplitr; · iempintro
  isplitl [HO]; · iexact HO
  isplitl [HH]; · iexact HH
  iexists V m c main_v3_0; iexists V m c main_v3_1
  isplitr; · ipureintro; trivial
  isplitl [Hf]; · iexact Hf
  iexact Hg

theorem G_of_PhiK (G : (c : Dev nD) → (b : Ref sig .tc) → Buf (Elt F) ((c : Thread nD τ).loc b)) (c : Dev nD) :
    PhiK m nothing (atG G) c ⊢ (Pipeline.ΦDRV osem0 cfg0.spec H0 R0 (V m) G c : sProp 𝕄) := by
  unfold Pipeline.ΦDRV PhiK nothing
  rw [pts0_eq]
  iintro ⟨HS, -, HO, HH, ⟨%f, %g, %h, Hf, Hg⟩⟩
  obtain ⟨rfl, rfl⟩ := h
  isplitl [HS]; · iexact HS
  isplitl [HO]; · iexact HO
  isplitl [HH]; · iexact HH
  isplitl [Hf]; · iexact Hf
  iexact Hg

/-- What the call leaves, its results at `G`. -/
abbrev atExit (G : (c : Dev nD) → (b : Ref sig .tc) → Buf (Elt F) ((c : Thread nD τ).loc b)) (c : Dev nD) : Valuation τ sig (Elt F) :=
  Pipeline.withArrays cfg0.spec c (Pipeline.withR (V0 m c) R0 c (G c)) fun w => (dats m nothing (atG G) 0 c).arrAt w cfg0.N

set_option backward.isDefEq.respectTransparency.types false in
/-- The run, when the call's results always end at `G`: every buffer ends as the later host operations leave it. -/
theorem run_value (G : (c : Dev nD) → (b : Ref sig .tc) → Buf (Elt F) ((c : Thread nD τ).loc b)) (hG : Ends m (atG G)) :
    θ_run defs (onTc (τ := τ) (main (F := F))) (s₀ m ρ) (fun r => ∀ c : Dev nD, ∀ b ∈ Pipeline.restRefs sig cfg0.spec,
      r.2.mem ((c.tc : Thread nD τ).loc b) = StableHlo.after [hostOps1].flatten (atExit m G c) (Proc.devRef .tc b)) :=
  Pipeline.θ_run_frame_dmaR_aroundV (Q' := _) (hQ' := fun _ h c => (h.1 c).2) cfgs (dats m nothing (atG G)) (0 : Fin 1) launch0 osem0 defs₀ Variants.none ownSemFacts0 H0 R0 H0_sub R0_sub m ρ main
    (hbody := fun c => (body_obligation m (atG G) nothing hG c).loose) (hshare := fun c => (dats m nothing (atG G) 0 c).share_full fun _ => rfl)
    (howed := fun _ _ => rfl) (V₀ := V0 m) (opss := [hostOps1]) (hsub := sfx_sub) (hfresh := sfx_fresh) (hkeep := sfx_keeps) (hmain := hmainD m Variants.none)
    (hA := A_eq m (atG G) nothing) (G := G) (hin := fun c => PhiK_of_V m c) (hout := fun c => G_of_PhiK m G c)

/-- The frame, at any float semantics. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Block.lean ====
/-
  The kernel's arithmetic on one block of 128 tokens, as functions: the layer norm of a block of key columns, the sine and
  cosine of a vector of angles, the rotation, the exponent of a vector of magnitudes and the quantiser of one block.
  Channels are rows and tokens are columns throughout.
-/
module

public import proofs.«01_k».proof.Proof.Gen.KernelIdeal.Skeleton

@[expose] public section

noncomputable section

namespace Cert.KernelIdeal.Hand

open Cert.KernelIdeal Cert.KernelIdeal.Gen Idealize.ShloMosaic Idealize.SL.Sem

variable {F : FTy → Type} [FloatOps F]

/-- A constant at every index. -/
abbrev cst (S : Shape) (b : BitVec 32) : FVec F S .f32 := broadcast S (Scalar.ofBits .f32 b)

/-! ## Sine and cosine of a vector of angles -/

section Trig

variable {S : Shape}

/-- The quarter turns in an angle, to the nearest one. -/
def turns (a : FVec F S .f32) : FVec F S .f32 := roundeven (mulf a (cst S 0x3F22F983#32))

/-- The angle less `n` quarter turns, these subtracted in three parts. -/
def rest (a n : FVec F S .f32) : FVec F S .f32 :=
  subf (subf (subf a (mulf n (cst S 0x3FC90000#32))) (mulf n (cst S 0x39FDA000#32))) (mulf n (cst S 0x33A22169#32))

/-- The sine's polynomial at `r`, whose square is `z`. -/
def sinPoly (r z : FVec F S .f32) : FVec F S .f32 :=
  addf (mulf (mulf (subf (mulf (addf (mulf (cst S 0xB94CA1F9#32) z) (cst S 0x3C08839E#32)) z) (cst S 0x3E2AAAA3#32)) z) r) r

/-- The cosine's polynomial at a number whose square is `z`. -/
def cosPoly (z : FVec F S .f32) : FVec F S .f32 :=
  addf (subf (mulf (mulf (addf (mulf (subf (mulf (cst S 0x37CCF5CE#32) z) (cst S 0x3AB6061A#32)) z) (cst S 0x3D2AAAA5#32)) z) z)
    (mulf (cst S 0x3F000000#32) z)) (cst S 0x3F800000#32)

/-- `v` with its sign changed where bit 1 of `q` is set. -/
def flip (q : IVec S 32) (v : FVec F S .f32) : FVec F S .f32 :=
  select (cmpi .eq (andi q (broadcast S 2#32)) (broadcast S 2#32)) (subf (cst S 0x00000000#32) v) v

/-- Where the number of quarter turns is odd. -/
def odd (q : IVec S 32) : IVec S 1 := cmpi .eq (andi q (broadcast S 1#32)) (broadcast S 1#32)

def sinOf (q : IVec S 32) (r z : FVec F S .f32) : FVec F S .f32 :=
  flip q (select (odd q) (cosPoly z) (sinPoly r z))

def cosOf (q : IVec S 32) (r z : FVec F S .f32) : FVec F S .f32 :=
  flip (addi q (broadcast S 1#32)) (select (odd q) (sinPoly r z) (cosPoly z))

def sinR (n r : FVec F S .f32) : FVec F S .f32 := sinOf (fptosi 32 n) r (mulf r r)
def cosR (n r : FVec F S .f32) : FVec F S .f32 := cosOf (fptosi 32 n) r (mulf r r)

def sinN (a n : FVec F S .f32) : FVec F S .f32 := sinR n (rest a n)
def cosN (a n : FVec F S .f32) : FVec F S .f32 := cosR n (rest a n)

/-- The sine of each angle. -/
def sinV (a : FVec F S .f32) : FVec F S .f32 := sinN a (turns a)

/-- The cosine of each angle. -/
def cosV (a : FVec F S .f32) : FVec F S .f32 := cosN a (turns a)

end Trig

/-! ## The key block -/

/-- The mean of each column. -/
def meanCol (k : FVec F S128x128 .f32) : FVec F S1x128 .f32 :=
  mulf (shapeCast S1x128 (multiReduction .add [0] S128 k 0x00000000#32 reduces_S128x128_S128 (.inl rfl) rfl) shapeCasts_S128_S1x128)
    (cst S1x128 0x3C000000#32)

/-- The columns less their means. -/
def centred (k : FVec F S128x128 .f32) : FVec F S128x128 .f32 :=
  subf k (broadcastTo S128x128 (meanCol k) broadcasts_S1x128_S128x128)

/-- Centred columns divided by their deviations. -/
def scaled (kc : FVec F S128x128 .f32) : FVec F S128x128 .f32 :=
  mulf kc (broadcastTo S128x128 (rsqrt (addf (meanCol (mulf kc kc)) (cst S1x128 0x358637BD#32))) broadcasts_S1x128_S128x128)

/-- The layer norm of each column. -/
def normed (k w b : FVec F S128x128 .f32) : FVec F S128x128 .f32 := addf (mulf (scaled (centred k)) w) b

/-- The angle of each of the 32 pairs at the 128 tokens from position `p`. -/
def angles (p : BitVec 32) (freq : FVec F S32x128 .f32) : FVec F S32x128 .f32 :=
  mulf (sitofp .f32 (addi (broadcast S32x128 p) (iota .tc S32x128 32 [1] iota_S32x128_d1_w32))) freq

/-- The rotation of a normed block, from the sines and cosines. -/
def rotate (k : FVec F S128x128 .f32) (s c : FVec F S32x128 .f32) : FVec F S128x128 .f32 :=
  have lo : FVec F S32x128 .f32 := extractStridedSlice S32x128 ![0, 0] k slices_S128x128_o0_0_S32x128
  have hi : FVec F S32x128 .f32 := extractStridedSlice S32x128 ![32, 0] k slices_S128x128_o32_0_S32x128
  concatenate S128x128 0 [⟨S32x128, subf (mulf lo c) (mulf hi s)⟩, ⟨S32x128, addf (mulf hi c) (mulf lo s)⟩,
    ⟨S64x128, extractStridedSlice S64x128 ![64, 0] k slices_S128x128_o64_0_S64x128⟩] concatenates_S32x128_S32x128_S64x128_S128x128_d0

/-- The block that the Hadamard product takes: normed and rotated. -/
def keyBlk (k w b : FVec F S128x128 .f32) (p : BitVec 32) (freq : FVec F S32x128 .f32) : FVec F S128x128 .f32 :=
  rotate (normed k w b) (sinV (angles p freq)) (cosV (angles p freq))

/-! ## The three parts of a block -/

def part1 (k : FVec F S128x128 .f32) : FVec F S128x128 .bf16 := truncf .bf16 k bitsLt_bf16_f32
def left1 (k : FVec F S128x128 .f32) : FVec F S128x128 .f32 := subf k (extf .f32 (part1 k) bitsLt_bf16_f32)
def part2 (k : FVec F S128x128 .f32) : FVec F S128x128 .bf16 := part1 (left1 k)
def part3 (k : FVec F S128x128 .f32) : FVec F S128x128 .bf16 := part1 (left1 (left1 k))

/-- Two blocks beside each other. -/
def beside (a b : FVec F S128x128 .bf16) : FVec F S128x256 .bf16 :=
  concatenate S128x256 1 [⟨S128x128, a⟩, ⟨S128x128, b⟩] concatenates_S128x128_S128x128_S128x256_d1

/-- One tile above another. -/
def above (a b : FVec F S128x256 .bf16) : FVec F S256x256 .bf16 :=
  concatenate S256x256 0 [⟨S128x256, a⟩, ⟨S128x256, b⟩] concatenates_S128x256_S128x256_S256x256_d0

/-- What the Hadamard product's first pass takes: the first parts above the second; -/
def tile12 (a b : FVec F S128x128 .f32) : FVec F S256x256 .bf16 := above (beside (part1 a) (part1 b)) (beside (part2 a) (part2 b))

/-- its second pass: the third parts above zeros. -/
def tile3 (a b : FVec F S128x128 .f32) : FVec F S256x256 .bf16 :=
  above (beside (part3 a) (part3 b)) (broadcast S128x256 (Scalar.ofBits .bf16 0x0000#16))

/-! ## The quantiser -/

/-- One step of the search for the exponent field of `a`: the bit `b` is set when the power of two stays at most `a`. -/
def stepF {S : Shape} (a : FVec F S .f32) (f : IVec S 32) (b : BitVec 32) : IVec S 32 :=
  select (cmpf .olt a (bitcastToFloat .f32 (shli (addi f (broadcast S b)) (broadcast S 23#32)))) f (addi f (broadcast S b))

/-- The exponent field of `a`. -/
def fieldF {S : Shape} (a : FVec F S .f32) : IVec S 32 :=
  stepF a (stepF a (stepF a (stepF a (stepF a (stepF a (stepF a (stepF a (broadcast S 0#32) 128#32) 64#32) 32#32) 16#32) 8#32) 4#32) 2#32) 1#32

/-- The exponent of a field. -/
def expoF {S : Shape} (f : IVec S 32) : IVec S 32 :=
  select (cmpi .eq f (broadcast S 0#32)) (broadcast S 0#32) (subi f (broadcast S 126#32))

/-- The largest magnitude of each column of a group, over the largest code. -/
def amaxG (y : FVec F S32x128 .f32) : FVec F S1x128 .f32 :=
  mulf (mulf (shapeCast S1x128 (multiReduction .maximumf [0] S128 (absf y) 0xFF800000#32 reduces_S32x128_S128 (.inl rfl) rfl)
    shapeCasts_S128_S1x128) (cst S1x128 0x3DB504F3#32)) (cst S1x128 0x3B124925#32)

/-- The exponent of each column of a group. -/
def expoG (y : FVec F S32x128 .f32) : IVec S1x128 32 := expoF (fieldF (amaxG y))

/-- The codes of a group at exponents `e`. -/
def codeG (y : FVec F S32x128 .f32) (e : IVec S1x128 32) : FVec F S32x128 .f32 :=
  minimumf (cst S32x128 0x43E00000#32) (maximumf (cst S32x128 0xC3E00000#32) (mulf y (broadcastTo S32x128
    (mulf (bitcastToFloat .f32 (shli (subi (broadcast S1x128 127#32) e) (broadcast S1x128 23#32))) (cst S1x128 0x3DB504F3#32))
    broadcasts_S1x128_S32x128)))

/-- The exponent byte of a group in its place in the word. -/
def byteG (w : IVec S1x128 32) (e : IVec S1x128 32) (n : BitVec 32) : IVec S1x128 32 :=
  ori w (shli (addi e (broadcast S1x128 127#32)) (broadcast S1x128 n))

def grp0 (y : FVec F S128x128 .f32) : FVec F S32x128 .f32 := extractStridedSlice S32x128 ![0, 0] y slices_S128x128_o0_0_S32x128
def grp1 (y : FVec F S128x128 .f32) : FVec F S32x128 .f32 := extractStridedSlice S32x128 ![32, 0] y slices_S128x128_o32_0_S32x128
def grp2 (y : FVec F S128x128 .f32) : FVec F S32x128 .f32 := extractStridedSlice S32x128 ![64, 0] y slices_S128x128_o64_0_S32x128
def grp3 (y : FVec F S128x128 .f32) : FVec F S32x128 .f32 := extractStridedSlice S32x128 ![96, 0] y slices_S128x128_o96_0_S32x128

/-- A block's codes, tokens as rows. -/
def codesBlk (y : FVec F S128x128 .f32) : FVec F S128x128 .fp8e4m3 :=
  shapeCast S128x128 (truncf .fp8e4m3 (transpose S128x128 [1, 0] (concatenate S128x128 0
    [⟨S32x128, codeG (grp0 y) (expoG (grp0 y))⟩, ⟨S32x128, codeG (grp1 y) (expoG (grp1 y))⟩,
     ⟨S32x128, codeG (grp2 y) (expoG (grp2 y))⟩, ⟨S32x128, codeG (grp3 y) (expoG (grp3 y))⟩]
    concatenates_S32x128_S32x128_S32x128_S32x128_S128x128_d0) transposes_S128x128_p1_0_S128x128) bitsLt_fp8e4m3_f32)
    shapeCasts_S128x128_S128x128

/-- A block's words of four exponent bytes. -/
def wordBlk (y : FVec F S128x128 .f32) : IVec S1x128 32 :=
  byteG (byteG (byteG (byteG (broadcast S1x128 0#32) (expoG (grp0 y)) 0#32) (expoG (grp1 y)) 8#32) (expoG (grp2 y)) 16#32)
    (expoG (grp3 y)) 24#32

/-- A block's exponent bytes. -/
def scaleBlk (y : FVec F S128x128 .f32) : IVec S1x4x128 8 :=
  shapeCast S1x4x128 (bitcast S4x128 8 (wordBlk y) bitcasts_S1x128_w32_S4x128_w8) shapeCasts_S4x128_S1x4x128

/-- The first and the second half of a tile of 256 tokens. -/
def half0 (k : FVec F S128x256 .f32) : FVec F S128x128 .f32 := extractStridedSlice S128x128 ![0, 0] k slices_S128x256_o0_0_S128x128
def half1 (k : FVec F S128x256 .f32) : FVec F S128x128 .f32 := extractStridedSlice S128x128 ![0, 128] k slices_S128x256_o0_128_S128x128

end Cert.KernelIdeal.Hand

end
-- ==== Proof.Tiles.lean ====
/-
  The kernel's schedule on the matrix units, as functions of the arrays it loads: project, transform and quantise of each
  tile of 256 tokens, the states of the units between them, and the lists of blocks stored into the two result buffers.
-/
module

public import proofs.«01_k».proof.Proof.Block

@[expose] public section

noncomputable section

namespace Cert.KernelIdeal.Hand

open Cert.KernelIdeal Cert.KernelIdeal.Gen Idealize.ShloMosaic Idealize.SL.Sem

variable {F : FTy → Type} [FloatOps F]

/-- What the body loads: the token tiles by columns, the weights by columns, the norm's weight and bias along rows, the
    first position of each sequence, the frequencies and the Hadamard signs. -/
structure Ins (F : FTy → Type) where
  x : Fin 9 → Fin 8 → FVec F S256x256 .bf16
  w : Fin 8 → FVec F S128x256 .bf16
  lnw : FVec F S128x128 .f32
  lnb : FVec F S128x128 .f32
  pos : Fin 6 → BitVec 32
  freq : FVec F S32x128 .f32
  had : FVec F S128x256 .bf16

/-- An accumulator of 128 rows starts at each multiple of 32. -/
theorem fits_slot (j : Fin 4) : Mxu.Fits (32 * j.val) 128 := by revert j; decide

/-- Push a tile into a register and accumulate its product into slot `j` of unit `q`. -/
def pass (s : Mxu F) (q r : Fin 2) (tr : Bool) (j : Fin 4) (v : FVec F S256x256 .bf16) (lhs : FVec F S128x256 .bf16) : Mxu F :=
  (s.pushed q r tr v).accLhs q r (32 * j.val) lhs (fits_slot j)

/-- Empty slot `j` of both units. -/
def pops (s : Mxu F) (j : Fin 4) : Mxu F :=
  (s.pop 0 (32 * j.val) 128 (fits_slot j)).pop 1 (32 * j.val) 128 (fits_slot j)

/-- The sum of slot `j` of both units, the second read after the first is emptied. -/
def sumOf (s : Mxu F) (j : Fin 4) : FVec F S128x256 .f32 :=
  addf (s.read 0 (32 * j.val) (fits_slot j)) ((s.pop 0 (32 * j.val) 128 (fits_slot j)).read 1 (32 * j.val) (fits_slot j))

/-- The slots that tile `i`'s keys and its products are accumulated in. -/
def slotK (i : Nat) : Fin 4 := ⟨i % 2, by omega⟩
def slotY (i : Nat) : Fin 4 := ⟨2 + i % 2, by omega⟩

variable (I : Ins F)

/-- Project tile `i`: its eight column tiles, alternating between the units. -/
def project (i : Fin 9) (s : Mxu F) : Mxu F :=
  have j : Fin 4 := slotK i
  have one : Mxu F → Fin 4 → Mxu F := fun s t =>
    pass (pass s 0 ⟨t % 2, by omega⟩ true j (I.x i ⟨t, by omega⟩) (I.w ⟨t, by omega⟩)) 1 ⟨t % 2, by omega⟩ true j
      (I.x i ⟨4 + t, by omega⟩) (I.w ⟨4 + t, by omega⟩)
  one (one (one (one s 0) 1) 2) 3

/-- The position of the first token of half `h` of tile `i`. -/
def posOf (i : Fin 9) (h : Fin 2) : BitVec 32 :=
  Scalar.addi (I.pos ⟨(2 * i.val + h.val) / 3, by omega⟩) (BitVec.ofNat 32 ((2 * i.val + h.val) % 3 * 128))

/-- The rotated keys of the two halves of tile `i`, from its keys. -/
def keyHalf (i : Fin 9) (k : FVec F S128x256 .f32) (h : Fin 2) : FVec F S128x128 .f32 :=
  keyBlk (match h with | 0 => half0 k | 1 => half1 k) I.lnw I.lnb (posOf I i h) I.freq

/-- Transform tile `i`: empty its keys' slots and accumulate the Hadamard product of the rotated keys. -/
def transform (i : Fin 9) (s : Mxu F) : Mxu F :=
  have k : FVec F S128x256 .f32 := sumOf s (slotK i)
  pass (pass (pops s (slotK i)) 0 0 false (slotY i) (tile12 (keyHalf I i k 0) (keyHalf I i k 1)) I.had)
    1 0 false (slotY i) (tile3 (keyHalf I i k 0) (keyHalf I i k 1)) I.had

/-- Step `n` up to its projection, from the state after the step before; -/
def stepA (n : Nat) (s : Mxu F) : Mxu F := if h : n < 9 then project I ⟨n, h⟩ s else s
/-- up to its transform; -/
def stepB (n : Nat) (s : Mxu F) : Mxu F :=
  match n with
  | 0 => stepA I 0 s
  | n + 1 => if h : n < 9 then transform I ⟨n, h⟩ (stepA I (n + 1) s) else stepA I (n + 1) s
/-- the whole step. -/
def stepC (n : Nat) (s : Mxu F) : Mxu F :=
  match n with
  | 0 => stepB I 0 s
  | 1 => stepB I 1 s
  | n + 2 => pops (stepB I (n + 2) s) (slotY n)

/-- The state before step `n`. -/
def state : Nat → Mxu F
  | 0 => Mxu.init
  | n + 1 => stepC I n (state n)

/-- The Hadamard product of tile `i`, as the quantiser reads it. -/
def yTile (i : Nat) : FVec F S128x256 .f32 := sumOf (stepB I (i + 2) (state I (i + 2))) (slotY i)

/-- The Hadamard product of block `m` of 128 tokens. -/
def yBlk (m : Nat) : FVec F S128x128 .f32 := if m % 2 = 0 then half0 (yTile I (m / 2)) else half1 (yTile I (m / 2))

theorem inb_codes (m : Nat) (h : m < 18) : ∀ a, (![128 * m, 0] : Fin 2 → Nat) a + S128x128.size a ≤ S2304x128.size a := by
  intro a; match a with
  | 0 => show 128 * m + 128 ≤ 2304; omega
  | 1 => show 0 + 128 ≤ 128; omega

theorem inb_scale (m : Nat) (h : m < 18) : ∀ a, (![m / 3, 0, 128 * (m % 3)] : Fin 3 → Nat) a + S1x4x128.size a ≤ S6x4x384.size a := by
  intro a; match a with
  | 0 => show m / 3 + 1 ≤ 6; omega
  | 1 => show 0 + 4 ≤ 4; omega
  | 2 => show 128 * (m % 3) + 128 ≤ 384; omega

/-- The codes of the first `n` blocks as stored, last first; -/
def codesPieces : (n : Nat) → n ≤ 18 → List (View.Piece (Elt F) S2304x128 .fp8e4m3)
  | 0, _ => []
  | n + 1, h => ⟨Rect.unit ![128 * n, 0] S128x128.size (inb_codes n h), codesBlk (yBlk I n)⟩ :: codesPieces n (by omega)

/-- their exponent bytes. -/
def scalePieces : (n : Nat) → n ≤ 18 → List (View.Piece (Elt F) S6x4x384 .i8)
  | 0, _ => []
  | n + 1, h => ⟨Rect.unit ![n / 3, 0, 128 * (n % 3)] S1x4x128.size (inb_scale n h), scaleBlk (yBlk I n)⟩ :: scalePieces n (by omega)

end Cert.KernelIdeal.Hand

end
-- ==== Proof.Bridge.lean ====
/-
  The run's stored blocks are the schedule's: the arrays that the run loads, gathered, and the two lists of stored blocks
  as the schedule's functions of them.
-/
module

public import proofs.«01_k».proof.Proof.RunIdeal
public import proofs.«01_k».proof.Proof.Tiles

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.SL.Sem
open kernelRun.sl

variable {F : FTy → Type} [FloatOps F]
variable (c : Dev nD) (f0 : Bf (F := F) c hb0) (f1 : Bf (F := F) c hb1) (f2 : Bf (F := F) c hb2) (f3 : Bf (F := F) c hb3) (f4 : Bf (F := F) c hb4) (f5 : Bf (F := F) c hb5)
  (s1 : Bf (F := F) c sc1) (s5 : Bf (F := F) c sc5) (s6 : Bf (F := F) c sc6) (s11 : Bf (F := F) c sc11) (s12 : Bf (F := F) c sc12)

theorem inb_x (i : Fin 9) (t : Fin 8) : ∀ a, (![256 * i.val, 256 * t.val] : Fin 2 → Nat) a + S256x256.size a ≤ S2304x2048.size a := by
  intro a; match a with
  | 0 => show 256 * i.val + 256 ≤ 2304; omega
  | 1 => show 256 * t.val + 256 ≤ 2048; omega

theorem inb_w (t : Fin 8) : ∀ a, (![0, 256 * t.val] : Fin 2 → Nat) a + S128x256.size a ≤ S128x2048.size a := by
  intro a; match a with
  | 0 => show 0 + 128 ≤ 128; omega
  | 1 => show 256 * t.val + 256 ≤ 2048; omega

theorem inb_pos (b : Fin 6) : ∀ a, (![b.val, 0] : Fin 2 → Nat) a + S1x1.size a ≤ S6x384.size a := by
  intro a; match a with
  | 0 => show b.val + 1 ≤ 6; omega
  | 1 => show 0 + 1 ≤ 384; omega

/-- The tokens as the transfers leave them in the kernel's own buffer. -/
def xPieces : List (View.Piece (Elt F) S2304x2048 .bf16) :=
  [⟨Rect.unit ![1536, 0] S768x2048.size inb_S2304x2048_S768x2048_1536_0, dma0_8 c f0⟩,
   ⟨Rect.unit ![768, 0] S768x2048.size inb_S2304x2048_S768x2048_768_0, dma0_7 c f0⟩,
   ⟨Rect.unit ![256, 0] S512x2048.size inb_S2304x2048_S512x2048_256_0, dma0_6 c f0⟩,
   ⟨Rect.unit ![0, 0] S256x2048.size inb_S2304x2048_S256x2048_0_0, dma0_5 c f0⟩]

/-- What the run loads. -/
def insOf : Ins F where
  x i t := sc0.view.readCov (xPieces c f0) (Rect.unit (s := S2304x2048) ![256 * i.val, 256 * t.val] S256x256.size (inb_x i t)).toLoadRect
  w t := sc2.view.readCov (S2_16 c f1 f2 s1 s12) (Rect.unit (s := S128x2048) ![0, 256 * t.val] S128x256.size (inb_w t)).toLoadRect
  lnw := v292_r0 c f3 s5
  lnb := v294_r0 c f4 s6
  pos b := View.readAt (Elt F) sc11.view (Rect.unit (s := S6x384) ![b.val, 0] S1x1.size (inb_pos b)).toLoadRect
    (View.write (Elt F) sc11.view s11 (dma0_4 c f5) Finset.univ) (Shape.Idx.first (by show 0 < S1x1.numel; decide))
  freq := v302_r0
  had := v491_r0

theorem codes_eq : S3_18 c f0 f1 f2 f3 f4 f5 s1 s5 s6 s11 s12 = codesPieces (insOf c f0 f1 f2 f3 f4 f5 s1 s5 s6 s11 s12) 18 (le_refl _) := by
  sl_kernel_rfl

theorem scale_eq : S4_18 c f0 f1 f2 f3 f4 f5 s1 s5 s6 s11 s12 = scalePieces (insOf c f0 f1 f2 f3 f4 f5 s1 s5 s6 s11 s12) 18 (le_refl _) := by
  sl_kernel_rfl

end Cert.KernelIdeal.Hand

end
-- ==== Proof.MxuValue.lean ====
/-
  What the matrix units' slots hold between the steps of the schedule, over the extended reals: before step `n` the keys of
  tile `n - 1` and the Hadamard products of tile `n - 2` stand in their slots, every other slot is zero, and no register
  holds a tile.  So the product that the quantiser reads is the sum of the passes of its own tile.
-/
module

public import proofs.«01_k».proof.Proof.Tiles
public import Idealize.ShloMosaic.Lib.Pointwise

@[expose] public section

noncomputable section

namespace Cert.KernelIdeal.Hand

open Cert.KernelIdeal Cert.KernelIdeal.Gen Idealize.ShloMosaic Idealize.SL.Sem

/-- The product of one pass. -/
def prod (tr : Bool) (lhs : FVec Ideal S128x256 .bf16) (v : FVec Ideal S256x256 .bf16) : FVec Ideal S128x256 .f32 :=
  Mxu.Staged.pass (F := Ideal) ⟨.bf16, tr, v⟩ lhs

/-- Zero at every index. -/
def zeroT : FVec Ideal S128x256 .f32 := constant S128x256 .f32 0

/-- What slot `j` of unit `q` holds. -/
def slot (s : Mxu Ideal) (q : Fin 2) (j : Fin 4) : FVec Ideal S128x256 .f32 := s.read q (32 * j.val) (fits_slot j)

/-- No register holds a tile. -/
def Clear (s : Mxu Ideal) : Prop := ∀ q r, s.reg q r = none

/-- Accumulating adds, whether the rows were live or not: rows not live are zero. -/
theorem read_acc (s : Mxu Ideal) (q r : Fin 2) (A : Nat) (lhs : FVec Ideal S128x256 .bf16) (h : Mxu.Fits A 128) :
    (s.accLhs q r A lhs h).read q A h = addf (s.read q A h) ((s.staged q r).pass lhs) := by
  rw [Mxu.read_accLhs]
  funext i
  cases hl : s.live q (Mxu.row h (i 0)) with
  | true => rfl
  | false =>
    have h0 : s.read q A h i = (0 : EReal) := (s.clean q _ (i 1) hl).trans (Ideal.ofBits_zero_f32)
    show _ = (s.read q A h i : EReal) + _
    rw [h0, zero_add]; rfl

theorem clear_pass {s : Mxu Ideal} (hs : Clear s) (q r : Fin 2) (tr : Bool) (j : Fin 4) (v) (lhs) : Clear (pass s q r tr j v lhs) := by
  intro q' r'
  unfold pass
  by_cases h : q' = q ∧ r' = r
  · obtain ⟨rfl, rfl⟩ := h; exact Mxu.reg_accLhs _ _ _ _ _ _
  · rw [Mxu.reg_accLhs_ne _ _ _ _ _ _ _ _ h, Mxu.reg_pushed_ne _ _ _ _ _ _ _ h]; exact hs q' r'

theorem clear_pops {s : Mxu Ideal} (hs : Clear s) (j : Fin 4) : Clear (pops s j) := hs

/-- A pass adds its product to its slot and leaves every other one. -/
theorem slot_pass {s : Mxu Ideal} (hs : Clear s) (q r : Fin 2) (tr : Bool) (j : Fin 4) (v) (lhs) (q' : Fin 2) (j' : Fin 4) :
    slot (pass s q r tr j v lhs) q' j' = if q' = q ∧ j' = j then addf (slot s q j) (prod tr lhs v) else slot s q' j' := by
  unfold pass slot
  split
  · rename_i h; obtain ⟨rfl, rfl⟩ := h
    rw [read_acc, Mxu.read_pushed, Mxu.staged_eq, Mxu.reg_pushed_of_none _ _ _ _ _ (hs _ _)]; rfl
  · rename_i h
    rw [Mxu.read_accLhs_ne, Mxu.read_pushed]
    by_cases hq : q' = q
    · right; have : j'.val ≠ j.val := fun e => h ⟨hq, Fin.ext e⟩; omega
    · exact .inl hq

/-- Emptying a slot makes it zero in both units and leaves every other one. -/
theorem slot_pops (s : Mxu Ideal) (j : Fin 4) (q' : Fin 2) (j' : Fin 4) :
    slot (pops s j) q' j' = if j' = j then zeroT else slot s q' j' := by
  unfold pops slot
  split
  · rename_i h; subst h
    match q' with
    | 0 => rw [Mxu.read_pop_ne _ _ _ _ _ _ _ (.inl (by decide)), Mxu.read_pop]; rfl
    | 1 => rw [Mxu.read_pop]; rfl
  · rename_i h
    have : j'.val ≠ j.val := fun e => h (Fin.ext e)
    rw [Mxu.read_pop_ne _ _ _ _ _ _ _ (.inr (by omega)), Mxu.read_pop_ne _ _ _ _ _ _ _ (.inr (by omega))]

theorem sumOf_eq (s : Mxu Ideal) (j : Fin 4) : sumOf s j = addf (slot s 0 j) (slot s 1 j) := by
  unfold sumOf slot; rw [Mxu.read_pop_ne _ _ _ _ _ _ _ (.inl (by decide))]

variable (I : Ins Ideal)

/-- Unit `q`'s part of the keys of tile `i`: its four column tiles. -/
def kPart (i : Fin 9) (q : Fin 2) : FVec Ideal S128x256 .f32 :=
  addf (addf (addf (addf zeroT (prod true (I.w ⟨4 * q.val + 0, by omega⟩) (I.x i ⟨4 * q.val + 0, by omega⟩)))
    (prod true (I.w ⟨4 * q.val + 1, by omega⟩) (I.x i ⟨4 * q.val + 1, by omega⟩)))
    (prod true (I.w ⟨4 * q.val + 2, by omega⟩) (I.x i ⟨4 * q.val + 2, by omega⟩)))
    (prod true (I.w ⟨4 * q.val + 3, by omega⟩) (I.x i ⟨4 * q.val + 3, by omega⟩))

/-- The keys of tile `i`. -/
def kTile (i : Fin 9) : FVec Ideal S128x256 .f32 := addf (kPart I i 0) (kPart I i 1)

/-- The rotated keys of the two halves of tile `i`. -/
def rTile (i : Fin 9) (h : Fin 2) : FVec Ideal S128x128 .f32 := keyHalf I i (kTile I i) h

/-- Unit `q`'s part of the Hadamard product of tile `i`. -/
def yPart (i : Fin 9) (q : Fin 2) : FVec Ideal S128x256 .f32 :=
  addf zeroT (prod false I.had (match q with
    | 0 => tile12 (rTile I i 0) (rTile I i 1)
    | 1 => tile3 (rTile I i 0) (rTile I i 1)))

/-- What holds before step `n`. -/
structure Inv (n : Nat) (s : Mxu Ideal) : Prop where
  clear : Clear s
  kFree : ∀ q, slot s q (slotK n) = zeroT
  yFree : ∀ q, slot s q (slotY (n + 1)) = zeroT
  kHeld : ∀ i : Fin 9, n = i.val + 1 → ∀ q, slot s q (slotK i.val) = kPart I i q
  yHeld : ∀ i : Fin 9, n = i.val + 2 → ∀ q, slot s q (slotY i.val) = yPart I i q
  yNone : n < 2 → ∀ q, slot s q (slotY n) = zeroT
  kNone : n = 0 → ∀ q, slot s q (slotK (n + 1)) = zeroT

theorem slotK_ne (n : Nat) : slotK n ≠ slotK (n + 1) := fun h => by have := congrArg Fin.val h; simp only [slotK] at this; omega
theorem slotY_ne (n : Nat) : slotY n ≠ slotY (n + 1) := fun h => by have := congrArg Fin.val h; simp only [slotY] at this; omega
theorem slotK_ne_Y (n m : Nat) : slotK n ≠ slotY m := fun h => by have := congrArg Fin.val h; simp only [slotK, slotY] at this; omega
theorem slotK_two (n : Nat) : slotK (n + 2) = slotK n := Fin.ext (by simp only [slotK]; omega)
theorem slotY_two (n : Nat) : slotY (n + 2) = slotY n := Fin.ext (by simp only [slotY]; omega)

theorem clear_project {s : Mxu Ideal} (hs : Clear s) (i : Fin 9) : Clear (project I i s) := by
  unfold project
  dsimp only
  repeat' apply clear_pass
  exact hs

theorem slot_project {s : Mxu Ideal} (hs : Clear s) (i : Fin 9) (h0 : ∀ q, slot s q (slotK i.val) = zeroT) (q : Fin 2) (j : Fin 4) :
    slot (project I i s) q j = if j = slotK i.val then kPart I i q else slot s q j := by
  unfold project
  dsimp only
  by_cases hj : j = slotK i.val
  · subst hj
    rw [if_pos rfl]
    match q with
    | 0 =>
      repeat rw [slot_pass (by repeat' apply clear_pass
                               exact hs)]
      simp [h0]
      rfl
    | 1 =>
      repeat rw [slot_pass (by repeat' apply clear_pass
                               exact hs)]
      simp [h0]
      rfl
  · rw [if_neg hj]
    repeat rw [slot_pass (by repeat' apply clear_pass
                             exact hs), if_neg (fun h => hj h.2)]

theorem clear_transform {s : Mxu Ideal} (hs : Clear s) (i : Fin 9) : Clear (transform I i s) := by
  unfold transform
  dsimp only
  exact clear_pass (clear_pass (clear_pops hs _) _ _ _ _ _ _) _ _ _ _ _ _

theorem slot_transform {s : Mxu Ideal} (hs : Clear s) (i : Fin 9) (hk : ∀ q, slot s q (slotK i.val) = kPart I i q)
    (h0 : ∀ q, slot s q (slotY i.val) = zeroT) (q : Fin 2) (j : Fin 4) :
    slot (transform I i s) q j = if j = slotY i.val then yPart I i q else if j = slotK i.val then zeroT else slot s q j := by
  have hsum : sumOf s (slotK i.val) = kTile I i := by rw [sumOf_eq, hk, hk]; rfl
  unfold transform
  dsimp only
  rw [hsum, slot_pass (clear_pass (clear_pops hs _) _ _ _ _ _ _), slot_pass (clear_pops hs _), slot_pass (clear_pops hs _)]
  simp only [slot_pops]
  by_cases hj : j = slotY i.val
  · subst hj
    have hne : slotY i.val ≠ slotK i.val := fun h => slotK_ne_Y _ _ h.symm
    match q with
    | 0 => simp [h0, hne]; rfl
    | 1 => simp [h0, hne]; rfl
  · simp [hj]

theorem inv_init : Inv I 0 Mxu.init where
  clear q r := Mxu.reg_init _ _
  kFree q := Mxu.read_init _ _ _
  yFree q := Mxu.read_init _ _ _
  kHeld i h := by omega
  yHeld i h := by omega
  yNone _ q := Mxu.read_init _ _ _
  kNone _ q := Mxu.read_init _ _ _

/-- After the projection of step `n`. -/
theorem slot_stepA {n : Nat} {s : Mxu Ideal} (hs : Inv I n s) :
    Clear (stepA I n s) ∧ (∀ i : Fin 9, n = i.val → ∀ q, slot (stepA I n s) q (slotK i.val) = kPart I i q) ∧
      ∀ q j, j ≠ slotK n → slot (stepA I n s) q j = slot s q j := by
  unfold stepA
  split
  · rename_i h
    refine ⟨clear_project I hs.clear _, fun i hi q => ?_, fun q j hj => ?_⟩
    · obtain rfl : i = ⟨n, h⟩ := Fin.ext hi.symm
      rw [slot_project I hs.clear _ hs.kFree, if_pos rfl]
    · rw [slot_project I hs.clear _ hs.kFree, if_neg hj]
  · exact ⟨hs.clear, fun i hi => by omega, fun q j _ => rfl⟩

/-- After the transform of step `n`. -/
theorem slot_stepB {n : Nat} (hn : n ≤ 9) {s : Mxu Ideal} (hs : Inv I n s) :
    Clear (stepB I n s) ∧ (∀ i : Fin 9, n = i.val → ∀ q, slot (stepB I n s) q (slotK i.val) = kPart I i q) ∧
      (∀ q, slot (stepB I n s) q (slotK (n + 1)) = zeroT) ∧
      (∀ i : Fin 9, n = i.val + 1 → ∀ q, slot (stepB I n s) q (slotY i.val) = yPart I i q) ∧
      ∀ q, slot (stepB I n s) q (slotY n) = slot s q (slotY n) := by
  obtain ⟨hc, hk, ho⟩ := slot_stepA I hs
  match n, hn with
  | 0, _ =>
    refine ⟨hc, hk, fun q => ?_, fun i h => by omega, fun q => ho q _ (fun h => slotK_ne_Y _ _ h.symm)⟩
    show slot (stepA I 0 s) q (slotK (0 + 1)) = _
    rw [ho q _ (slotK_ne 0).symm]; exact hs.kNone rfl q
  | m + 1, hm =>
    have h9 : m < 9 := by omega
    have e : stepB I (m + 1) s = transform I ⟨m, h9⟩ (stepA I (m + 1) s) := by
      show (if h : m < 9 then _ else _) = _
      rw [dif_pos h9]
    have hK : ∀ q, slot (stepA I (m + 1) s) q (slotK m) = kPart I ⟨m, h9⟩ q := fun q => by
      rw [ho q _ (slotK_ne m)]; exact hs.kHeld ⟨m, h9⟩ rfl q
    have hY : ∀ q, slot (stepA I (m + 1) s) q (slotY m) = zeroT := fun q => by
      rw [ho q _ (fun h => slotK_ne_Y _ _ h.symm), ← slotY_two]; exact hs.yFree q
    have ht := slot_transform I hc ⟨m, h9⟩ hK hY
    rw [e]
    refine ⟨clear_transform I hc _, fun i hi q => ?_, fun q => ?_, fun i hi q => ?_, fun q => ?_⟩
    · rw [ht, if_neg (slotK_ne_Y _ _), if_neg (by rw [← hi]; exact (slotK_ne m).symm)]; exact hk i hi q
    · rw [ht, if_neg (slotK_ne_Y _ _), if_pos (slotK_two m)]
    · obtain rfl : i = ⟨m, h9⟩ := Fin.ext (by show i.val = m; omega)
      rw [ht, if_pos rfl]
    · rw [ht, if_neg (slotY_ne m).symm, if_neg (fun h => slotK_ne_Y _ _ h.symm)]
      exact ho q _ (fun h => slotK_ne_Y _ _ h.symm)

theorem inv_step {n : Nat} (hn : n ≤ 9) {s : Mxu Ideal} (hs : Inv I n s) : Inv I (n + 1) (stepC I n s) := by
  obtain ⟨hc, hk, hf, hy, ho⟩ := slot_stepB I hn hs
  match n, hn with
  | 0, _ => exact ⟨hc, hf, fun q => (ho q).trans (hs.yNone (by omega) q), fun i hi => hk i (by omega), fun i hi => by omega,
      fun _ q => by
        show slot (stepA I 0 s) q _ = _
        rw [(slot_stepA I hs).2.2 q _ (fun h => slotK_ne_Y _ _ h.symm)]; exact hs.yFree q, fun h => by omega⟩
  | 1, _ => exact ⟨hc, hf, fun q => (ho q).trans (hs.yNone (by omega) q), fun i hi => hk i (by omega), fun i hi => hy i (by omega),
      fun h => by omega, fun h => by omega⟩
  | m + 2, hm =>
    refine ⟨clear_pops hc _, fun q => ?_, fun q => ?_, fun i hi q => ?_, fun i hi q => ?_, fun h => by omega, fun h => by omega⟩
    · show slot (pops (stepB I (m + 2) s) (slotY m)) q _ = _
      rw [slot_pops, if_neg (slotK_ne_Y _ _)]; exact hf q
    · show slot (pops (stepB I (m + 2) s) (slotY m)) q _ = _
      rw [slot_pops, if_pos (by rw [show m + 2 + 1 + 1 = m + 2 + 2 from rfl, slotY_two, slotY_two])]
    · show slot (pops (stepB I (m + 2) s) (slotY m)) q _ = _
      rw [slot_pops, if_neg (slotK_ne_Y _ _)]; exact hk i (by omega) q
    · show slot (pops (stepB I (m + 2) s) (slotY m)) q _ = _
      rw [slot_pops, if_neg (by rw [show i.val = m + 1 by omega]; exact (slotY_ne m).symm)]; exact hy i (by omega) q

theorem inv_state : ∀ n, n ≤ 10 → Inv I n (state I n)
  | 0, _ => inv_init I
  | n + 1, h => inv_step I (by omega) (inv_state n (by omega))

/-- The product that the quantiser reads for tile `i` is the sum of the two units' parts. -/
theorem yTile_eq (i : Fin 9) : yTile I i.val = addf (yPart I i 0) (yPart I i 1) := by
  have hs := inv_state I (i.val + 2) (by omega)
  unfold yTile
  rw [sumOf_eq]
  by_cases h : i.val + 2 ≤ 9
  · have hb := (slot_stepB I h hs).2.2.2.2
    rw [← slotY_two, hb, hb, slotY_two, hs.yHeld i rfl, hs.yHeld i rfl]
  · have e : stepB I (i.val + 2) (state I (i.val + 2)) = state I (i.val + 2) := by
      show (if h : i.val + 1 < 9 then _ else stepA I (i.val + 2) _) = _
      rw [dif_neg (by omega)]; unfold stepA; rw [dif_neg (by omega)]
    rw [e, hs.yHeld i rfl, hs.yHeld i rfl]

end Cert.KernelIdeal.Hand

end
-- ==== Proof.Spec.lean ====
/-
  One token's indexer key, as mathematics over the extended reals: the layer norm of its 128 key channels, the rotation, the
  Hadamard product, and the quantiser of one group of 32 channels as the problem states it (`count`, `expo`, `code`, `byte`)
  and as the kernel computes it (`field`, `expoK`, `codeK`, `byteK`).
-/
module

public import proofs.«01_k».proof.Proof.Block
public import Idealize.ShloMosaic.Lib.Pointwise

@[expose] public section

noncomputable section

namespace Cert.Key

open Idealize.ShloMosaic Idealize.ShloMosaic.Pointwise Cert.KernelIdeal.Hand
open scoped BigOperators

/-- The number of a word of 32 bits. -/
abbrev fb (b : BitVec 32) : EReal := Ideal.ofBits .f32 b

/-- Key channel `h` less the mean of the 128; -/
def centS (k : Fin 128 → EReal) (h : Fin 128) : EReal := k h - (∑ x, k x) * fb 0x3C000000#32

/-- divided by the deviation. -/
def scaledS (k : Fin 128 → EReal) (h : Fin 128) : EReal :=
  centS k h * Ideal.rsqrt ((∑ x, centS k x * centS k x) * fb 0x3C000000#32 + fb 0x358637BD#32)

/-- The layer norm. -/
def normS (k lw lb : Fin 128 → EReal) (h : Fin 128) : EReal := scaledS k h * lw h + lb h

/-- The shape of one number. -/
abbrev S0 : Shape := ⟨1, ![1]⟩

/-- The sine and the cosine of one angle. -/
def sinS (a : EReal) : EReal := sinV (F := Ideal) (S := S0) (fun _ => a) (ix1 0)
def cosS (a : EReal) : EReal := cosV (F := Ideal) (S := S0) (fun _ => a) (ix1 0)

/-- The rotation of the first 64 channels by the 32 angles. -/
def rotS (n : Fin 128 → EReal) (a : Fin 32 → EReal) (h : Fin 128) : EReal :=
  if h1 : h.val < 32 then n ⟨h, by omega⟩ * cosS (a ⟨h, h1⟩) - n ⟨32 + h, by omega⟩ * sinS (a ⟨h, h1⟩)
  else if h2 : h.val - 32 < 32 then
    n ⟨32 + (h - 32), by omega⟩ * cosS (a ⟨h - 32, h2⟩) + n ⟨h - 32, by omega⟩ * sinS (a ⟨h - 32, h2⟩)
  else n ⟨64 + (h - 32 - 32), by omega⟩

/-- The frequency of pair `g`. -/
def freqS (g : Fin 32) : EReal :=
  Ideal.exp2 ((((BitVec.ofNat 32 g.val).toInt : ℝ) : EReal) * fb 0xBD000000#32 * fb 0x41549A78#32)

/-- The angle of pair `g` at position `p`. -/
def angleS (p : BitVec 32) (g : Fin 32) : EReal := ((p.toInt : ℝ) : EReal) * freqS g

/-- The rotated key of a token at position `p`. -/
def keyS (k lw lb : Fin 128 → EReal) (p : BitVec 32) (h : Fin 128) : EReal := rotS (normS k lw lb) (angleS p) h

/-- The Hadamard matrix: minus one where the row's and the column's numbers share an odd number of ones. -/
def parityS (r c : Fin 128) : BitVec 32 :=
  let b : BitVec 32 := BitVec.ofNat 32 r.val &&& BitVec.ofNat 32 c.val
  ((((((((b >>> 0) &&& 1#32) + ((b >>> 1) &&& 1#32)) + ((b >>> 2) &&& 1#32)) + ((b >>> 3) &&& 1#32)) + ((b >>> 4) &&& 1#32))
    + ((b >>> 5) &&& 1#32)) + ((b >>> 6) &&& 1#32)) &&& 1#32

def signS (r c : Fin 128) : EReal := (((1#32 - 2#32 * parityS r c : BitVec 32).toInt : ℝ) : EReal)

/-- The Hadamard product of a key, not scaled. -/
def hadS (r : Fin 128 → EReal) (c : Fin 128) : EReal := ∑ h, r h * signS h c

/-- The largest magnitude of a group. -/
def amaxS (y : Fin 32 → EReal) : EReal := Finset.fold max (fb 0xFF800000#32) (fun x => max (y x) (-(y x))) Finset.univ

/-! ## The quantiser as stated -/

/-- How many of the powers `2 ^ (j - 126)`, `j < 256`, are at most `a`. -/
def count (a : EReal) : EReal :=
  ∑ j : Fin 256, ((((Ideal.cmp .oge a (Ideal.exp2 (((BitVec.ofNat 32 j.val - 126#32 : BitVec 32).toInt : ℝ) : EReal))).setWidth 32).toInt : ℝ) : EReal)

/-- The exponent. -/
def expo (a : EReal) : EReal := Scalar.select (Ideal.cmp .oeq (count a) (fb 0x00000000#32)) (fb 0x00000000#32) (count a - fb 0x42FC0000#32)

def code (y a : EReal) : EReal := min (fb 0x43E00000#32) (max (fb 0xC3E00000#32) (y * Ideal.exp2 (fb 0x00000000#32 - expo a)))

def byte (a : EReal) : BitVec 8 := (Ideal.fptosi 32 (expo a + fb 0x42FE0000#32)).setWidth 8

/-! ## The quantiser as computed -/

def step (a : EReal) (f b : BitVec 32) : BitVec 32 := Scalar.select (Ideal.cmp .olt a (fb ((f + b) <<< 23))) f (f + b)

/-- The exponent field of `a`, by a search of its eight bits. -/
def field (a : EReal) : BitVec 32 :=
  step a (step a (step a (step a (step a (step a (step a (step a 0#32 128#32) 64#32) 32#32) 16#32) 8#32) 4#32) 2#32) 1#32

def expoK (a : EReal) : BitVec 32 := Scalar.select (IntOp.cmpi .eq (field a) 0#32) 0#32 (field a - 126#32)

def codeK (y a : EReal) : EReal :=
  min (fb 0x43E00000#32) (max (fb 0xC3E00000#32) (y * (fb ((127#32 - expoK a) <<< 23) * fb 0x3DB504F3#32)))

def byteK (a : EReal) : BitVec 8 := (expoK a + 127#32).setWidth 8

end Cert.Key

end
-- ==== Proof.KeyValue.lean ====
/-
  The schedule's blocks read at an index, over the extended reals: the Hadamard product of each tile is the product of its
  tokens' rotated keys, when these are finite; the codes and exponent bytes of a block are the quantiser's of its columns.
-/
module

public import proofs.«01_k».proof.Proof.MxuValue
public import proofs.«01_k».proof.Proof.Spec
public import Idealize.ShloMosaic.Lib.MatmulPlain
public import Idealize.ShloMosaic.Lib.BitcastFour

@[expose] public section

noncomputable section

namespace Cert.KernelIdeal.Hand

open Cert.KernelIdeal Cert.KernelIdeal.Gen Idealize.ShloMosaic Idealize.SL.Sem Cert.Key
open Idealize.ShloMosaic.Pointwise
open scoped BigOperators

theorem zeroT_apply (i : S128x256.Idx) : zeroT i = (0 : EReal) := Ideal.ofBits_zero_f32

theorem prod_false_apply (lhs : FVec Ideal S128x256 .bf16) (v : FVec Ideal S256x256 .bf16) (r : Fin 128) (c : Fin 256) :
    prod false lhs v (ix2 r c) = ∑ k : Fin 256, (lhs (ix2 r k) * v (ix2 k c) : EReal) := by
  have h := Ideal.matmul_plain_apply (M := 128) (K := 256) (N := 256) none lhs v zeroT r c
  rw [Ideal.matmul_apply] at h
  have z := zeroT_apply (ValueIdx.ix2 r c)
  rw [show (zeroT (ValueIdx.ix2 r c) : EReal) = 0 from z, zero_add, zero_add] at h
  exact h

theorem prod_true_apply (lhs : FVec Ideal S128x256 .bf16) (v : FVec Ideal S256x256 .bf16) (r : Fin 128) (c : Fin 256) :
    prod true lhs v (ix2 r c) = ∑ k : Fin 256, (lhs (ix2 r k) * v (ix2 c k) : EReal) := by
  have h := Ideal.matmul_transposedRhs_apply (M := 128) (K := 256) (N := 256) none lhs v zeroT r c
  rw [Ideal.matmul_apply] at h
  have z := zeroT_apply (ValueIdx.ix2 r c)
  rw [show (zeroT (ValueIdx.ix2 r c) : EReal) = 0 from z, zero_add, zero_add] at h
  exact h

/-- Eight sums over 256 columns, four to each unit, are the sum over 2048. -/
theorem sum_tiles (f : Fin 2048 → EReal) :
    ((((0 + ∑ k : Fin 256, f ⟨256 * 0 + k, by omega⟩) + ∑ k : Fin 256, f ⟨256 * 1 + k, by omega⟩)
      + ∑ k : Fin 256, f ⟨256 * 2 + k, by omega⟩) + ∑ k : Fin 256, f ⟨256 * 3 + k, by omega⟩)
    + ((((0 + ∑ k : Fin 256, f ⟨256 * 4 + k, by omega⟩) + ∑ k : Fin 256, f ⟨256 * 5 + k, by omega⟩)
      + ∑ k : Fin 256, f ⟨256 * 6 + k, by omega⟩) + ∑ k : Fin 256, f ⟨256 * 7 + k, by omega⟩) = ∑ d : Fin 2048, f d := by
  rw [← Equiv.sum_comp (finProdFinEquiv (m := 8) (n := 256)), Fintype.sum_prod_type, Fin.sum_univ_eight]
  have e : ∀ q : Fin 8, (∑ k : Fin 256, f (finProdFinEquiv (q, k))) = ∑ k : Fin 256, f ⟨256 * q.val + k, by omega⟩ :=
    fun q => Finset.sum_congr rfl fun k _ => congrArg f (Fin.ext (by simp [finProdFinEquiv]; omega))
  simp only [e, zero_add]
  simp only [add_assoc]
  rfl

section Read

variable (I : Ins Ideal)

/-- The keys of tile `i` from the arrays whose tiles were loaded. -/
theorem kTile_apply (X : Fin 2304 → Fin 2048 → EReal) (W : Fin 128 → Fin 2048 → EReal)
    (hx : ∀ (i : Fin 9) (q : Fin 8) (t k : Fin 256), I.x i q (ix2 t k) = X ⟨256 * i + t, by omega⟩ ⟨256 * q + k, by omega⟩)
    (hw : ∀ (q : Fin 8) (h : Fin 128) (k : Fin 256), I.w q (ix2 h k) = W h ⟨256 * q + k, by omega⟩)
    (i : Fin 9) (h : Fin 128) (t : Fin 256) :
    kTile I i (ix2 h t) = (∑ d, W h d * X ⟨256 * i + t, by omega⟩ d : EReal) := by
  rw [← sum_tiles fun d => W h d * X ⟨256 * i + t, by omega⟩ d]
  show ((((zeroT _ + prod _ _ _ (ix2 h t)) + prod _ _ _ (ix2 h t)) + prod _ _ _ (ix2 h t)) + prod _ _ _ (ix2 h t))
    + ((((zeroT _ + prod _ _ _ (ix2 h t)) + prod _ _ _ (ix2 h t)) + prod _ _ _ (ix2 h t)) + prod _ _ _ (ix2 h t)) = (_ : EReal)
  simp only [prod_true_apply, hx, hw]
  rw [show (zeroT (ix2 h t) : EReal) = 0 from zeroT_apply _]
  rfl

theorem normed_apply (k w b : FVec Ideal S128x128 .f32) (h c : Fin 128) :
    normed k w b (ix2 h c) = normS (fun x => k (ix2 x c)) (fun x => w (ix2 x c)) (fun x => b (ix2 x c)) h := by
  pointwise [normed, scaled, centred, meanCol]
  rfl

theorem sinV_apply {S : Shape} (a : FVec Ideal S .f32) (i : S.Idx) : sinV a i = sinS (a i) := rfl
theorem cosV_apply {S : Shape} (a : FVec Ideal S .f32) (i : S.Idx) : cosV a i = cosS (a i) := rfl

theorem keyBlk_apply (k w b : FVec Ideal S128x128 .f32) (p : BitVec 32) (freq : FVec Ideal S32x128 .f32) (h c : Fin 128) :
    keyBlk k w b p freq (ix2 h c) = rotS (normS (fun x => k (ix2 x c)) (fun x => w (ix2 x c)) (fun x => b (ix2 x c)))
      (fun g => angles p freq (ix2 g c)) h := by
  unfold keyBlk
  pointwise [rotate]
  simp only [normed_apply, sinV_apply, cosV_apply]
  rfl

theorem angles_apply (p : BitVec 32) (freq : FVec Ideal S32x128 .f32) (g : Fin 32) (c : Fin 128) (hf : freq (ix2 g c) = freqS g) :
    angles p freq (ix2 g c) = angleS (p + BitVec.ofNat 32 c.val) g := by
  pointwise [angles]
  rw [hf]
  rfl

/-- The lower or the upper half's column of a tile. -/
theorem half_apply (k : FVec Ideal S128x256 .f32) (h c : Fin 128) :
    half0 k (ix2 h c) = k (ix2 h ⟨c, by omega⟩) ∧ half1 k (ix2 h c) = k (ix2 h ⟨128 + c, by omega⟩) := by
  constructor
  · pointwise [half0]
  · pointwise [half1]

theorem sum_halves (f : Fin 256 → EReal) (hz : ∀ k : Fin 128, f ⟨128 + k, by omega⟩ = 0) :
    ∑ k, f k = ∑ k : Fin 128, f ⟨k, by omega⟩ := by
  have e := Fin.sum_univ_add (a := 128) (b := 128) f
  have z : ∑ k : Fin 128, f (Fin.natAdd 128 k) = 0 := Finset.sum_eq_zero fun k _ => hz k
  rw [z, add_zero] at e
  exact e

theorem sub_self_of {x : EReal} (h1 : x ≠ ⊤) (h2 : x ≠ ⊥) : x - x = 0 := EReal.sub_self h1 h2

/-- The Hadamard product of a tile of finite keys. -/
theorem yTile_apply (hh : ∀ (c : Fin 128) (k : Fin 256), I.had (ix2 c k) = signS ⟨k.val % 128, by omega⟩ c)
    (i : Fin 9) (r : Fin 256 → Fin 128 → EReal)
    (hr0 : ∀ h c : Fin 128, rTile I i 0 (ix2 h c) = r ⟨c, by omega⟩ h) (hr1 : ∀ h c : Fin 128, rTile I i 1 (ix2 h c) = r ⟨128 + c, by omega⟩ h)
    (hfin : ∀ t h, r t h ≠ ⊤ ∧ r t h ≠ ⊥) (c : Fin 128) (t : Fin 256) :
    yTile I i.val (ix2 c t) = hadS (r t) c := by
  have e1 : ∀ (k : Fin 128), tile12 (F := Ideal) (rTile I i 0) (rTile I i 1) (ix2 (⟨k, by omega⟩ : Fin 256) t) = r t k := fun k => by
    pointwise [tile12, above, beside, part2, part1, left1]
    split
    · rw [hr0]
    · rename_i h; rw [hr1]; congr 1; exact Fin.ext (by simp; omega)
  have e2 : ∀ (k : Fin 128), tile12 (F := Ideal) (rTile I i 0) (rTile I i 1) (ix2 (⟨128 + k, by omega⟩ : Fin 256) t) = (0 : EReal) := fun k => by
    pointwise [tile12, above, beside, part2, part1, left1]
    split
    · rw [hr0]; exact EReal.sub_self (hfin _ _).1 (hfin _ _).2
    · rw [hr1]; exact EReal.sub_self (hfin _ _).1 (hfin _ _).2
  have e3 : ∀ (k : Fin 256), tile3 (F := Ideal) (rTile I i 0) (rTile I i 1) (ix2 k t) = (0 : EReal) := fun k => by
    pointwise [tile3, above, beside, part3, part1, left1]
    split
    · split
      · rw [hr0, EReal.sub_self (hfin _ _).1 (hfin _ _).2]; simp
      · rw [hr1, EReal.sub_self (hfin _ _).1 (hfin _ _).2]; simp
    · first | rfl | simp
  rw [yTile_eq]
  show ((zeroT _ + prod false I.had (tile12 (rTile I i 0) (rTile I i 1)) (ix2 c t))
    + (zeroT _ + prod false I.had (tile3 (rTile I i 0) (rTile I i 1)) (ix2 c t)) : EReal) = _
  rw [prod_false_apply, prod_false_apply, show (zeroT (ix2 c t) : EReal) = 0 from zeroT_apply _, zero_add, zero_add]
  have z3 : (∑ k : Fin 256, (I.had (ix2 c k) * tile3 (F := Ideal) (rTile I i 0) (rTile I i 1) (ix2 k t) : EReal)) = 0 :=
    Finset.sum_eq_zero fun k _ => by rw [e3]; exact mul_zero _
  rw [z3, add_zero, sum_halves _ fun k => by rw [e2]; exact mul_zero _]
  refine Finset.sum_congr rfl fun k _ => ?_
  rw [e1, hh, mul_comm]
  congr 2
  exact Fin.ext (Nat.mod_eq_of_lt k.isLt)

end Read

/-! ## The quantiser of a block -/

theorem amaxG_apply (y : FVec Ideal S32x128 .f32) (c : Fin 128) :
    amaxG y (ix2 0 c) = amaxS (fun x => y (ix2 x c)) * fb 0x3DB504F3#32 * fb 0x3B124925#32 := by
  pointwise [amaxG]
  rfl

theorem stepF_apply {S : Shape} (a : FVec Ideal S .f32) (f : IVec S 32) (b : BitVec 32) (i : S.Idx) :
    stepF a f b i = step (a i) (f i) b := rfl

theorem fieldF_apply {S : Shape} (a : FVec Ideal S .f32) (i : S.Idx) : fieldF a i = field (a i) := by
  unfold fieldF field
  simp only [stepF_apply]
  rfl

theorem expoF_apply {S : Shape} (f : IVec S 32) (i : S.Idx) :
    expoF f i = Scalar.select (IntOp.cmpi .eq (f i) 0#32) 0#32 (f i - 126#32) := rfl

theorem expoG_apply (y : FVec Ideal S32x128 .f32) (c : Fin 128) :
    expoG y (ix2 0 c) = expoK (amaxS (fun x => y (ix2 x c)) * fb 0x3DB504F3#32 * fb 0x3B124925#32) := by
  unfold expoG
  rw [expoF_apply, fieldF_apply, amaxG_apply]
  rfl

theorem codeG_apply (y : FVec Ideal S32x128 .f32) (h : Fin 32) (c : Fin 128) :
    codeG y (expoG y) (ix2 h c) = codeK (y (ix2 h c)) (amaxS (fun x => y (ix2 x c)) * fb 0x3DB504F3#32 * fb 0x3B124925#32) := by
  pointwise [codeG]
  rw [expoG_apply]
  rfl

/-- Group `g` of a block. -/
def grp (y : FVec Ideal S128x128 .f32) (g : Fin 4) : FVec Ideal S32x128 .f32 :=
  match g with | 0 => grp0 y | 1 => grp1 y | 2 => grp2 y | 3 => grp3 y

theorem grp_apply (y : FVec Ideal S128x128 .f32) (g : Fin 4) (h : Fin 32) (c : Fin 128) :
    grp y g (ix2 h c) = y (ix2 ⟨32 * g + h, by omega⟩ c) := by
  match g with
  | 0 =>
    show grp0 y _ = _
    pointwise [grp0]
  | 1 => show grp1 y _ = _; pointwise [grp1]
  | 2 => show grp2 y _ = _; pointwise [grp2]
  | 3 => show grp3 y _ = _; pointwise [grp3]

theorem codesBlk_grp (y : FVec Ideal S128x128 .f32) (t h : Fin 128) :
    codesBlk y (ix2 t h) = codeG (grp y ⟨h / 32, by omega⟩) (expoG (grp y ⟨h / 32, by omega⟩)) (ix2 ⟨h % 32, by omega⟩ t) := by
  pointwise [codesBlk]
  have hh := h.isLt
  split
  · have e : (⟨h.val / 32, by omega⟩ : Fin 4) = 0 := Fin.ext (by show h.val / 32 = 0; omega)
    rw [e]; show _ = codeG (grp0 y) (expoG (grp0 y)) _; congr 2; exact Fin.ext (by show h.val = h.val % 32; omega)
  · split
    · have e : (⟨h.val / 32, by omega⟩ : Fin 4) = 1 := Fin.ext (by show h.val / 32 = 1; omega)
      rw [e]; show _ = codeG (grp1 y) (expoG (grp1 y)) _; congr 2; exact Fin.ext (by show h.val - 32 = h.val % 32; omega)
    · split
      · have e : (⟨h.val / 32, by omega⟩ : Fin 4) = 2 := Fin.ext (by show h.val / 32 = 2; omega)
        rw [e]; show _ = codeG (grp2 y) (expoG (grp2 y)) _; congr 2; exact Fin.ext (by show h.val - 32 - 32 = h.val % 32; omega)
      · have e : (⟨h.val / 32, by omega⟩ : Fin 4) = 3 := Fin.ext (by show h.val / 32 = 3; omega)
        rw [e]; show _ = codeG (grp3 y) (expoG (grp3 y)) _; congr 2; exact Fin.ext (by show h.val - 32 - 32 - 32 = h.val % 32; omega)

/-- The codes of a block: the quantiser's of each group of each column. -/
theorem codesBlk_apply (y : FVec Ideal S128x128 .f32) (t h : Fin 128) :
    codesBlk y (ix2 t h) = codeK (y (ix2 h t)) (amaxS (fun x => y (ix2 ⟨32 * (h / 32) + x, by omega⟩ t)) * fb 0x3DB504F3#32 * fb 0x3B124925#32) := by
  rw [codesBlk_grp, codeG_apply]
  simp only [grp_apply]
  congr 3
  exact Fin.ext (by show 32 * (h.val / 32) + h.val % 32 = h.val; omega)

/-- A byte of a word of 32 bits. -/
theorem byte_of_word (w : IVec S1x128 32) (g : Fin 4) (c : Fin 128) :
    bitcast S4x128 8 w bitcasts_S1x128_w32_S4x128_w8 (ix2 g c) = (w (ix2 0 c) >>> (8 * g.val)).setWidth 8 := by
  apply BitVec.eq_of_getLsbD_eq
  intro q hq
  have hr : S4x128.row (ix2 g c) = g.val := rfl
  rw [bitcast_getLsbD w _ _ q hq (by decide), BitVec.getLsbD_setWidth, BitVec.getLsbD_ushiftRight]
  have hg := g.isLt
  have e1 : (S4x128.row (ix2 g c) * 8 + q) / 32 = 0 := by rw [hr]; omega
  have e2 : (S4x128.row (ix2 g c) * 8 + q) % 32 = 8 * g.val + q := by rw [hr]; omega
  rw [e2]
  simp only [hq, decide_true, Bool.true_and]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The byte of group `g` of four small numbers joined in a word. -/
theorem byte_joined (b : Fin 4 → BitVec 32) (hb : ∀ g, b g = ((b g).setWidth 8).setWidth 32) (g : Fin 4) :
    (((((0#32 ||| b 0 <<< 0) ||| b 1 <<< 8) ||| b 2 <<< 16) ||| b 3 <<< 24 : BitVec 32) >>> (8 * g.val)).setWidth 8
      = (b g).setWidth 8 := by
  apply BitVec.eq_of_getLsbD_eq
  intro q hq
  have e : ((((0#32 ||| b 0 <<< 0) ||| b 1 <<< 8) ||| b 2 <<< 16) ||| b 3 <<< 24 : BitVec 32)
      = ((b 0).setWidth 8).setWidth 32 ||| (((b 1).setWidth 8).setWidth 32 <<< 8) ||| (((b 2).setWidth 8).setWidth 32 <<< 16)
        ||| (((b 3).setWidth 8).setWidth 32 <<< 24) := by
    rw [← hb, ← hb, ← hb, ← hb]; simp
  have hg := g.isLt
  rw [e, BitVec.getLsbD_setWidth, BitVec.getLsbD_ushiftRight, four_bytes_getLsbD (fun g => (b g).setWidth 8) _ (by omega)]
  have e1 : (8 * g.val + q) % 8 = q := by omega
  have e2 : (⟨(8 * g.val + q) / 8, by omega⟩ : Fin 4) = g := Fin.ext (by show (8 * g.val + q) / 8 = g.val; omega)
  rw [e1, e2]
  simp [hq]

/-- The exponent bytes of a block, when every exponent fits in one byte. -/
theorem scaleBlk_apply (y : FVec Ideal S128x128 .f32) (g : Fin 4) (c : Fin 128)
    (hb : ∀ g : Fin 4, (expoG (grp y g) (ix2 0 c) + 127#32 : BitVec 32) = ((expoG (grp y g) (ix2 0 c) + 127#32).setWidth 8).setWidth 32) :
    scaleBlk y (ix3 0 g c) = byteK (amaxS (fun x => y (ix2 ⟨32 * g + x, by omega⟩ c)) * fb 0x3DB504F3#32 * fb 0x3B124925#32) := by
  pointwise [scaleBlk]
  rw [byte_of_word]
  have h := byte_joined (fun g => expoG (grp y g) (ix2 0 c) + 127#32) hb g
  have e : wordBlk y (ix2 0 c) = ((((0#32 ||| (expoG (grp y 0) (ix2 0 c) + 127#32) <<< 0) ||| (expoG (grp y 1) (ix2 0 c) + 127#32) <<< 8)
      ||| (expoG (grp y 2) (ix2 0 c) + 127#32) <<< 16) ||| (expoG (grp y 3) (ix2 0 c) + 127#32) <<< 24 : BitVec 32) := rfl
  rw [e, h, expoG_apply]
  simp only [grp_apply]
  rfl

end Cert.KernelIdeal.Hand

end
-- ==== Proof.Quant.lean ====
/-
  The quantiser that the kernel computes is the one the problem states: for a magnitude below `2 ^ 126` the search of the
  exponent field finds how many powers of two are at most it.
-/
module

public import proofs.«01_k».proof.Proof.Spec

@[expose] public section

noncomputable section

namespace Cert.Key

open Idealize.ShloMosaic
open scoped BigOperators

/-- The number whose exponent field is `n` and whose fraction is zero. -/
def pw (n : ℕ) : EReal := if n = 0 then 0 else if n ≤ 254 then (((2 : ℝ) ^ ((n : ℤ) - 127) : ℝ) : EReal) else ⊤

theorem shifted_fields : ∀ n : Fin 256,
    ((BitVec.ofNat 32 n.val <<< 23).extractLsb' 31 1 == 1#1) = false ∧ ((BitVec.ofNat 32 n.val <<< 23).extractLsb' 23 8).toNat = n.val ∧
      ((BitVec.ofNat 32 n.val <<< 23).extractLsb' 0 23).toNat = 0 := by decide +kernel

theorem ieee_power (b : BitVec 32) (n : ℕ) (h1 : (b.extractLsb' 31 1 == 1#1) = false) (h2 : (b.extractLsb' 23 8).toNat = n)
    (h3 : (b.extractLsb' 0 23).toNat = 0) (hn : n ≤ 255) : Ideal.ieee 8 23 b = pw n := by
  unfold Ideal.ieee pw
  simp only [show 8 + 23 = 31 from rfl, h1, h2, h3]
  by_cases h255 : n = 255
  · simp [h255]
  · by_cases h0 : n = 0
    · simp [h0]
    · have hn : n ≤ 254 := by omega
      have e : (2 : ℝ) ^ ((n : ℤ) - 127) = 2 ^ 23 * (2 : ℝ) ^ ((n : ℤ) - 127 - 23) := by
        rw [← zpow_natCast, ← zpow_add₀ (by norm_num)]; congr 1; push_cast; ring
      rw [e]
      simp only [h255, h0, hn, if_true, if_false]
      norm_num [h255]

/-- The number that a normal pattern of bits stands for. -/
theorem fb_normal (b : BitVec 32) (neg : Bool) (e f : ℕ) (h1 : (b.extractLsb' 31 1 == 1#1) = neg) (h2 : (b.extractLsb' 23 8).toNat = e)
    (h3 : (b.extractLsb' 0 23).toNat = f) (he : 1 ≤ e ∧ e ≤ 254) :
    fb b = (((if neg then -1 else 1) * ((2 ^ 23 + f : ℕ) : ℝ) * (2 : ℝ) ^ ((e : ℤ) - 150) : ℝ) : EReal) := by
  show Ideal.ieee 8 23 b = _
  unfold Ideal.ieee
  simp only [show 8 + 23 = 31 from rfl, h1, h2, h3]
  rw [if_neg (by omega), if_neg (by omega)]
  congr 2
  congr 1
  norm_num
  omega

theorem fb_shift (n : ℕ) (hn : n ≤ 255) : fb (BitVec.ofNat 32 n <<< 23) = pw n := by
  obtain ⟨h1, h2, h3⟩ := shifted_fields ⟨n, by omega⟩
  exact ieee_power _ n h1 h2 h3 hn

theorem pw_mono {m n : ℕ} (h : m ≤ n) : pw m ≤ pw n := by
  unfold pw
  by_cases hm : m = 0
  · subst hm; simp only [if_true]
    split
    · exact le_refl _
    · split
      · exact EReal.coe_nonneg.2 (zpow_nonneg (by norm_num) _)
      · exact le_top
  · rw [if_neg hm, if_neg (show n ≠ 0 by omega)]
    by_cases hn : n ≤ 254
    · rw [if_pos hn, if_pos (by omega)]
      exact EReal.coe_le_coe_iff.2 (zpow_le_zpow_right₀ (by norm_num) (by omega))
    · rw [if_neg hn]; exact le_top

theorem cmp_olt (a b : EReal) : Ideal.cmp .olt a b = BitVec.ofBool (decide (a < b)) := rfl

theorem select_ofBool {α : Type} (b : Bool) (x y : α) : Scalar.select (BitVec.ofBool b) x y = if b = true then x else y := by
  cases b <;> rfl

/-- One step of the search. -/
theorem step_spec {a : EReal} {f : BitVec 32} {w : ℕ} (h : ∃ n, f = BitVec.ofNat 32 n ∧ n + 2 * w ≤ 256 ∧ pw n ≤ a ∧ a < pw (n + 2 * w))
    (hw : 0 < w) : ∃ n, step a f (BitVec.ofNat 32 w) = BitVec.ofNat 32 n ∧ n + w ≤ 256 ∧ pw n ≤ a ∧ a < pw (n + w) := by
  obtain ⟨n, rfl, hn, h1, h2⟩ := h
  unfold step
  have e : BitVec.ofNat 32 n + BitVec.ofNat 32 w = BitVec.ofNat 32 (n + w) := (BitVec.ofNat_add n w).symm
  rw [e, fb_shift _ (by omega), cmp_olt, select_ofBool]
  by_cases hlt : a < pw (n + w)
  · exact ⟨n, by simp [hlt], by omega, h1, hlt⟩
  · refine ⟨n + w, by simp [hlt], by omega, not_lt.1 hlt, ?_⟩
    rw [show n + w + w = n + 2 * w by omega]; exact h2

/-- The field found. -/
theorem field_spec {a : EReal} (h0 : 0 ≤ a) (ht : a < pw 253) :
    ∃ n, field a = BitVec.ofNat 32 n ∧ n ≤ 252 ∧ pw n ≤ a ∧ a < pw (n + 1) := by
  have h := step_spec (a := a) (f := 0#32) (w := 128) ⟨0, rfl, by omega, by simpa [pw] using h0, lt_of_lt_of_le ht (pw_mono (by omega))⟩ (by omega)
  have h := step_spec (w := 64) h (by omega)
  have h := step_spec (w := 32) h (by omega)
  have h := step_spec (w := 16) h (by omega)
  have h := step_spec (w := 8) h (by omega)
  have h := step_spec (w := 4) h (by omega)
  have h := step_spec (w := 2) h (by omega)
  have h := step_spec (w := 1) h (by omega)
  obtain ⟨n, e, hn, h1, h2⟩ := h
  refine ⟨n, e, ?_, h1, h2⟩
  by_contra hc
  exact absurd (lt_of_le_of_lt (le_trans (pw_mono (show 253 ≤ n by omega)) h1) ht) (lt_irrefl _)

theorem index_toInt : ∀ j : Fin 256, (BitVec.ofNat 32 j.val - 126#32 : BitVec 32).toInt = (j.val : ℤ) - 126 := by decide +kernel

theorem card_below : ∀ n : Fin 257, (Finset.univ.filter fun j : Fin 256 => j.val < n.val).card = n.val := by decide +kernel

theorem exp2_int (k : ℤ) : Ideal.exp2 (((k : ℝ)) : EReal) = (((2 : ℝ) ^ k : ℝ) : EReal) := by
  rw [Ideal.exp2_coe]; congr 1; exact Real.rpow_intCast 2 k

theorem pow_le_iff {a : EReal} {n : ℕ} (hn : n ≤ 252) (h1 : pw n ≤ a) (h2 : a < pw (n + 1)) (j : Fin 256) :
    (((2 : ℝ) ^ ((j.val : ℤ) - 126) : ℝ) : EReal) ≤ a ↔ j.val < n := by
  have e : ∀ m : ℕ, m + 1 ≤ 254 → (((2 : ℝ) ^ ((m : ℤ) - 126) : ℝ) : EReal) = pw (m + 1) := fun m hm => by
    unfold pw; rw [if_neg (by omega), if_pos hm]; congr 2; push_cast; ring
  constructor
  · intro h
    by_contra hc
    have h3 : pw (n + 1) ≤ (((2 : ℝ) ^ ((j.val : ℤ) - 126) : ℝ) : EReal) := by
      rw [← e n (by omega)]
      exact EReal.coe_le_coe_iff.2 (zpow_le_zpow_right₀ (by norm_num) (by omega))
    exact absurd (lt_of_lt_of_le h2 (le_trans h3 h)) (lt_irrefl _)
  · intro h
    rw [e j.val (by omega)]
    exact le_trans (pw_mono (by omega)) h1

theorem count_spec {a : EReal} {n : ℕ} (hn : n ≤ 252) (h1 : pw n ≤ a) (h2 : a < pw (n + 1)) : count a = ((n : ℝ) : EReal) := by
  unfold count
  have e : ∀ j : Fin 256, ((((Ideal.cmp .oge a (Ideal.exp2 (((BitVec.ofNat 32 j.val - 126#32 : BitVec 32).toInt : ℝ) : EReal))).setWidth 32).toInt : ℝ) : EReal)
      = if j.val < n then (1 : EReal) else 0 := fun j => by
    rw [index_toInt, exp2_int]
    show ((((BitVec.ofBool (decide (_ ≤ a))).setWidth 32).toInt : ℝ) : EReal) = _
    rw [show decide ((((2 : ℝ) ^ ((j.val : ℤ) - 126) : ℝ) : EReal) ≤ a) = decide (j.val < n) from decide_eq_decide.2 (pow_le_iff hn h1 h2 j)]
    by_cases h : j.val < n
    · simp [h]
    · simp [h]
  rw [Finset.sum_congr rfl fun j _ => e j, Finset.sum_boole, card_below ⟨n, by omega⟩]
  rfl

theorem fb_126 : fb 0x42FC0000#32 = ((126 : ℝ) : EReal) := by
  rw [fb_normal _ false 133 8126464 (by decide) (by decide) (by decide) (by decide)]
  norm_num

theorem fb_127 : fb 0x42FE0000#32 = ((127 : ℝ) : EReal) := by
  rw [fb_normal _ false 133 8257536 (by decide) (by decide) (by decide) (by decide)]
  norm_num

theorem fb_zero : fb 0x00000000#32 = 0 := Ideal.ofBits_zero_f32

theorem fb_bot : fb 0xFF800000#32 = ⊥ := by
  simp [fb, Ideal.ofBits, Ideal.ieee]

/-- The exponent of the field `n`. -/
def exOf (n : ℕ) : ℤ := if n = 0 then 0 else (n : ℤ) - 126

/-- The words of the exponent. -/
theorem exOf_bits : ∀ n : Fin 253, ((if n.val = 0 then 0#32 else BitVec.ofNat 32 n.val - 126#32) = BitVec.ofInt 32 (exOf n.val)) ∧
    ((127#32 - BitVec.ofInt 32 (exOf n.val) : BitVec 32) = BitVec.ofNat 32 (127 - exOf n.val).toNat) ∧
    ((BitVec.ofInt 32 (exOf n.val) + 127#32 : BitVec 32) = BitVec.ofInt 32 (exOf n.val + 127)) ∧
    ((BitVec.ofInt 32 (exOf n.val) + 127#32 : BitVec 32) = ((BitVec.ofInt 32 (exOf n.val) + 127#32).setWidth 8).setWidth 32) := by
  decide +kernel

theorem expo_spec {a : EReal} {n : ℕ} (hn : n ≤ 252) (h1 : pw n ≤ a) (h2 : a < pw (n + 1)) : expo a = ((exOf n : ℝ) : EReal) := by
  unfold expo exOf
  rw [count_spec hn h1 h2, fb_zero, fb_126]
  show Scalar.select (BitVec.ofBool (decide (((n : ℝ) : EReal) = 0))) _ _ = _
  rw [select_ofBool]
  by_cases h : n = 0
  · subst h; simp
  · have : ¬ ((n : ℝ) : EReal) = 0 := by
      intro hc; apply h; exact_mod_cast hc
    rw [if_neg (by simpa using this), if_neg h, ← EReal.coe_sub]
    push_cast; rfl

theorem expoK_spec {a : EReal} {n : ℕ} (hf : field a = BitVec.ofNat 32 n) (hn : n ≤ 252) : expoK a = BitVec.ofInt 32 (exOf n) := by
  unfold expoK exOf
  rw [hf]
  show Scalar.select (BitVec.ofBool (BitVec.ofNat 32 n == 0#32)) _ _ = _
  rw [select_ofBool]
  by_cases h : n = 0
  · subst h; rfl
  · have : BitVec.ofNat 32 n ≠ 0#32 := fun hc => h (by have := congrArg BitVec.toNat hc; simpa [Nat.mod_eq_of_lt (show n < 4294967296 by omega)] using this)
    rw [if_neg (by simpa using this), if_neg h]
    have e := (exOf_bits ⟨n, by omega⟩).1
    unfold exOf at e
    rw [if_neg h, if_neg h] at e
    exact e

theorem exOf_range {n : ℕ} (hn : n ≤ 252) : -125 ≤ exOf n ∧ exOf n ≤ 126 := by unfold exOf; split <;> omega

/-- The power that the kernel multiplies by is the one stated. -/
theorem inv_spec {a : EReal} (h0 : 0 ≤ a) (ht : a < pw 253) : fb ((127#32 - expoK a) <<< 23) = Ideal.exp2 (fb 0x00000000#32 - expo a) := by
  obtain ⟨n, hf, hn, h1, h2⟩ := field_spec h0 ht
  obtain ⟨r1, r2⟩ := exOf_range hn
  rw [expo_spec hn h1 h2, expoK_spec hf hn, fb_zero, zero_sub, ← EReal.coe_neg, ← Int.cast_neg, exp2_int]
  have e := (exOf_bits ⟨n, by omega⟩).2.1
  dsimp only at e
  rw [e, fb_shift _ (by omega)]
  unfold pw
  rw [if_neg (by omega), if_pos (by omega)]
  congr 2
  omega

theorem byte_spec {a : EReal} (h0 : 0 ≤ a) (ht : a < pw 253) : byteK a = byte a := by
  obtain ⟨n, hf, hn, h1, h2⟩ := field_spec h0 ht
  obtain ⟨r1, r2⟩ := exOf_range hn
  unfold byteK byte
  rw [expo_spec hn h1 h2, expoK_spec hf hn, fb_127, ← EReal.coe_add]
  have e : ((exOf n : ℝ) + 127 : ℝ) = ((exOf n + 127 : ℤ) : ℝ) := by push_cast; rfl
  have f : Ideal.fptosi 32 (((exOf n + 127 : ℤ) : ℝ) : EReal) = BitVec.ofInt 32 (exOf n + 127) := by
    show BitVec.ofInt 32 (max _ (min _ (if (0 : ℝ) ≤ ((exOf n + 127 : ℤ) : ℝ) then ⌊((exOf n + 127 : ℤ) : ℝ)⌋ else ⌈((exOf n + 127 : ℤ) : ℝ)⌉))) = _
    rw [Int.floor_intCast, Int.ceil_intCast, ite_self, min_eq_right (by show exOf n + 127 ≤ 2 ^ 31 - 1; omega), max_eq_right (by show -2 ^ 31 ≤ exOf n + 127; omega)]
  rw [e, f, (exOf_bits ⟨n, by omega⟩).2.2.1]

/-- The exponent byte fits in eight bits. -/
theorem byte_small {a : EReal} (h0 : 0 ≤ a) (ht : a < pw 253) : (expoK a + 127#32 : BitVec 32) = ((expoK a + 127#32).setWidth 8).setWidth 32 := by
  obtain ⟨n, hf, hn, h1, h2⟩ := field_spec h0 ht
  obtain ⟨r1, r2⟩ := exOf_range hn
  rw [expoK_spec hf hn]
  exact (exOf_bits ⟨n, by omega⟩).2.2.2

theorem code_spec (y : EReal) {a : EReal} (h0 : 0 ≤ a) (ht : a < pw 253) : codeK y a = code (y * fb 0x3DB504F3#32) a := by
  unfold codeK code
  rw [inv_spec h0 ht, mul_assoc, mul_comm (fb 0x3DB504F3#32)]

/-- The largest magnitude of scaled numbers. -/
theorem amaxS_scaled (y : Fin 32 → EReal) {H : EReal} (hH : 0 < H) (hT : H ≠ ⊤) : amaxS (fun x => y x * H) = amaxS y * H := by
  unfold amaxS
  have mono : Monotone fun x : EReal => x * H := fun x x' h => mul_le_mul_of_nonneg_right h hH.le
  have h := Finset.fold_hom (op := max) (op' := max) (s := (Finset.univ : Finset (Fin 32))) (b := fb 0xFF800000#32)
    (f := fun x => max (y x) (-(y x))) (m := fun x : EReal => x * H) (fun x x' => mono.map_max)
  rw [← h]
  rw [fb_bot, EReal.bot_mul_of_pos hH]
  congr 1
  funext x
  rw [mono.map_max, EReal.neg_mul]

end Cert.Key

end
-- ==== Proof.Bounds.lean ====
/-
  How large the numbers of a key can be: where the layer norm's weights are at most `2 ^ 64` in magnitude, whatever the
  projection, the rotated key is real and its Hadamard product stays below what the exponent's search reaches.
-/
module

public import proofs.«01_k».proof.Proof.Quant

@[expose] public section

noncomputable section

namespace Cert.Key

open Idealize.ShloMosaic Idealize.ShloMosaic.Pointwise Cert.KernelIdeal.Hand
open scoped BigOperators

/-- `x` is real and at most `B` in magnitude. -/
def Bd (B : ℝ) (x : EReal) : Prop := ∃ r : ℝ, x = (r : EReal) ∧ |r| ≤ B

theorem Bd.mono {A B : ℝ} {x : EReal} (h : Bd A x) (hAB : A ≤ B) : Bd B x := let ⟨r, e, b⟩ := h; ⟨r, e, b.trans hAB⟩

theorem Bd.mul {A B : ℝ} {x y : EReal} (hx : Bd A x) (hy : Bd B y) : Bd (A * B) (x * y) := by
  obtain ⟨r, rfl, hr⟩ := hx
  obtain ⟨q, rfl, hq⟩ := hy
  refine ⟨r * q, (EReal.coe_mul r q).symm, ?_⟩
  rw [abs_mul]
  exact mul_le_mul hr hq (abs_nonneg _) ((abs_nonneg _).trans hr)

theorem Bd.add {A B : ℝ} {x y : EReal} (hx : Bd A x) (hy : Bd B y) : Bd (A + B) (x + y) := by
  obtain ⟨r, rfl, hr⟩ := hx
  obtain ⟨q, rfl, hq⟩ := hy
  exact ⟨r + q, (EReal.coe_add r q).symm, (abs_add_le r q).trans (add_le_add hr hq)⟩

theorem Bd.sub {A B : ℝ} {x y : EReal} (hx : Bd A x) (hy : Bd B y) : Bd (A + B) (x - y) := by
  obtain ⟨r, rfl, hr⟩ := hx
  obtain ⟨q, rfl, hq⟩ := hy
  exact ⟨r - q, (EReal.coe_sub r q).symm, (abs_sub r q).trans (add_le_add hr hq)⟩

theorem bd_zero : Bd 0 0 := ⟨0, rfl, by simp⟩

theorem bd_sum {n : ℕ} {B : ℝ} (f : Fin n → EReal) (h : ∀ i, Bd B (f i)) : Bd (n * B) (∑ i, f i) := by
  choose r e b using h
  refine ⟨∑ i, r i, ?_, ?_⟩
  · rw [Finset.sum_congr rfl fun i _ => e i]
    exact (map_sum (⟨⟨(fun x : ℝ => (x : EReal)), rfl⟩, EReal.coe_add⟩ : ℝ →+ EReal) r Finset.univ).symm
  · refine (Finset.abs_sum_le_sum_abs _ _).trans ((Finset.sum_le_card_nsmul _ _ B fun i _ => b i).trans ?_)
    simp

/-- The number of a pattern of bits whose exponent is below one. -/
theorem bd_fb (b : BitVec 32) (h : 1 ≤ (b.extractLsb' 23 8).toNat ∧ (b.extractLsb' 23 8).toNat ≤ 126) : Bd 1 (fb b) := by
  refine ⟨_, fb_normal b _ _ _ rfl rfl rfl (by omega), ?_⟩
  have hf : (b.extractLsb' 0 23).toNat < 2 ^ 23 := (b.extractLsb' 0 23).isLt
  generalize (b.extractLsb' 23 8).toNat = e at h
  generalize (b.extractLsb' 0 23).toNat = f at hf
  have hs : |(if (b.extractLsb' 31 1 == 1#1) = true then -1 else 1 : ℝ)| = 1 := by split <;> simp
  rw [abs_mul, abs_mul, hs, one_mul, abs_of_nonneg (by positivity), abs_of_nonneg (by positivity)]
  have h1 : ((2 ^ 23 + f : ℕ) : ℝ) ≤ 2 ^ 24 := by exact_mod_cast (by omega : 2 ^ 23 + f ≤ 2 ^ 24)
  have h2 : (2 : ℝ) ^ ((e : ℤ) - 150) ≤ 2 ^ (-24 : ℤ) := zpow_le_zpow_right₀ (by norm_num) (by omega)
  calc ((2 ^ 23 + f : ℕ) : ℝ) * (2 : ℝ) ^ ((e : ℤ) - 150) ≤ 2 ^ 24 * 2 ^ (-24 : ℤ) := mul_le_mul h1 h2 (by positivity) (by positivity)
    _ = 1 := by norm_num

theorem bd_one : Bd 1 (fb 0x3F800000#32) := ⟨1, Ideal.ofBits_one_f32, by simp⟩

/-! ## The layer norm -/

theorem real_of_add {a b : EReal} {r : ℝ} (h : a + b = (r : EReal)) : (∃ s : ℝ, a = s) ∧ ∃ s : ℝ, b = s := by
  induction a with
  | bot => simp at h
  | top => induction b with
    | bot => simp at h
    | top => simp at h
    | coe b => simp at h
  | coe a => induction b with
    | bot => simp at h
    | top => simp at h
    | coe b => exact ⟨⟨a, rfl⟩, b, rfl⟩

theorem real_of_sum {ι : Type} (s : Finset ι) (k : ι → EReal) (h : ∃ r : ℝ, ∑ x ∈ s, k x = r) : ∀ x ∈ s, ∃ r : ℝ, k x = r := by
  classical
  induction s using Finset.induction with
  | empty => intro x hx; simp at hx
  | insert a s ha ih =>
    obtain ⟨r, hr⟩ := h
    rw [Finset.sum_insert ha] at hr
    obtain ⟨h1, h2⟩ := real_of_add hr
    intro x hx
    rcases Finset.mem_insert.1 hx with rfl | hx
    · exact h1
    · exact ih h2 x hx

theorem fb_inv128 : fb 0x3C000000#32 = (((1 : ℝ) / 128 : ℝ) : EReal) := by
  rw [fb_normal _ false 120 0 (by decide) (by decide) (by decide) (by decide)]
  norm_num

theorem fb_eps : ∃ e : ℝ, 0 < e ∧ fb 0x358637BD#32 = (e : EReal) := by
  refine ⟨_, ?_, fb_normal _ false 107 407485 (by decide) (by decide) (by decide) (by decide)⟩
  norm_num

theorem coe_sum {n : ℕ} (r : Fin n → ℝ) : ∑ i, ((r i : ℝ) : EReal) = ((∑ i, r i : ℝ) : EReal) :=
  (map_sum (⟨⟨(fun x : ℝ => (x : EReal)), rfl⟩, EReal.coe_add⟩ : ℝ →+ EReal) r Finset.univ).symm

theorem scaled_bd (k : Fin 128 → EReal) (h : Fin 128) : Bd 12 (scaledS k h) := by
  obtain ⟨e, he, hfe⟩ := fb_eps
  by_cases hS : ∃ r : ℝ, ∑ x, k x = r
  · have hk := real_of_sum Finset.univ k hS
    choose r hr using fun x => hk x (Finset.mem_univ x)
    obtain rfl : k = fun x => ((r x : ℝ) : EReal) := funext hr
    have hc : ∀ x, centS (fun x => ((r x : ℝ) : EReal)) x = ((r x - (∑ x, r x) * (1 / 128) : ℝ) : EReal) := fun x => by
      unfold centS; rw [fb_inv128, coe_sum, ← EReal.coe_mul, ← EReal.coe_sub]
    unfold scaledS
    simp only [hc, ← EReal.coe_mul]
    rw [coe_sum, fb_inv128, hfe, ← EReal.coe_mul, ← EReal.coe_add]
    set d : Fin 128 → ℝ := fun x => r x - (∑ x, r x) * (1 / 128) with hd
    have hs : d h * d h ≤ ∑ x, d x * d x := Finset.single_le_sum (f := fun x => d x * d x) (fun x _ => mul_self_nonneg _) (Finset.mem_univ h)
    have hs0 : 0 ≤ ∑ x, d x * d x := Finset.sum_nonneg fun x _ => mul_self_nonneg _
    have hv : 0 < (∑ x, d x * d x) * (1 / 128) + e := by positivity
    have hR : Ideal.rsqrt (((∑ x, d x * d x) * (1 / 128) + e : ℝ) : EReal) = (((Real.sqrt ((∑ x, d x * d x) * (1 / 128) + e))⁻¹ : ℝ) : EReal) := by
      show (if (∑ x, d x * d x) * (1 / 128) + e < 0 then (⊥ : EReal) else if (∑ x, d x * d x) * (1 / 128) + e = 0 then ⊤ else _) = _
      rw [if_neg (not_lt.2 hv.le), if_neg hv.ne']
    have goal : Bd 12 (((d h : ℝ) : EReal) * Ideal.rsqrt (((∑ x, d x * d x) * (1 / 128) + e : ℝ) : EReal)) := by
      rw [hR]
      refine ⟨d h * (Real.sqrt ((∑ x, d x * d x) * (1 / 128) + e))⁻¹, (EReal.coe_mul _ _).symm, ?_⟩
      have hq := Real.sqrt_pos.2 hv
      have hsq := Real.mul_self_sqrt hv.le
      set q := Real.sqrt ((∑ x, d x * d x) * (1 / 128) + e)
      rw [abs_mul, abs_of_pos (inv_pos.2 hq), ← div_eq_mul_inv, div_le_iff₀ hq]
      apply abs_le_of_sq_le_sq' _ (by positivity) |> abs_le.2
      nlinarith
    exact goal
  · have hi : ∀ x, centS k x = ⊤ ∨ centS k x = ⊥ := fun x => by
      unfold centS
      rw [fb_inv128]
      have hp : (0 : EReal) < (((1 : ℝ) / 128 : ℝ) : EReal) := by exact_mod_cast (by norm_num : (0 : ℝ) < 1 / 128)
      generalize k x = z
      generalize ∑ x, k x = S at hS
      induction S with
      | bot =>
        rw [EReal.bot_mul_of_pos hp]
        induction z with
        | bot => exact .inr rfl
        | top => exact .inl rfl
        | coe z => exact .inl rfl
      | top =>
        rw [EReal.top_mul_of_pos hp]
        induction z with
        | bot => exact .inr rfl
        | top => exact .inr rfl
        | coe z => exact .inr rfl
      | coe S => exact absurd ⟨S, rfl⟩ hS
    have hsq : ∀ x, centS k x * centS k x = ⊤ := fun x => by rcases hi x with h | h <;> rw [h] <;> rfl
    have hp : (0 : EReal) < (((1 : ℝ) / 128 : ℝ) : EReal) := by exact_mod_cast (by norm_num : (0 : ℝ) < 1 / 128)
    have hT : ∑ x, centS k x * centS k x = ⊤ := by
      rw [Finset.sum_congr rfl fun x _ => hsq x]
      simp
      exact EReal.mul_top_of_pos (by norm_num)
    unfold scaledS
    rw [hT, fb_inv128, hfe, EReal.top_mul_of_pos hp]
    show Bd 12 (centS k h * Ideal.rsqrt ⊤)
    rw [show Ideal.rsqrt ⊤ = 0 from rfl, mul_zero]
    exact bd_zero.mono (by norm_num)

theorem norm_bd (k lw lb : Fin 128 → EReal) (hw : ∀ h, Bd (2 ^ 64) (lw h)) (hb : ∀ h, Bd (2 ^ 64) (lb h)) (h : Fin 128) :
    Bd (2 ^ 68) (normS k lw lb h) :=
  (((scaled_bd k h).mul (hw h)).add (hb h)).mono (by norm_num)

/-! ## The rotation -/

theorem freq_bd (g : Fin 32) : Bd 1 (freqS g) := by
  unfold freqS
  rw [fb_normal 0xBD000000#32 true 122 0 (by decide) (by decide) (by decide) (by decide),
    fb_normal 0x41549A78#32 false 130 5544568 (by decide) (by decide) (by decide) (by decide)]
  have hg : (BitVec.ofNat 32 g.val).toInt = (g.val : ℤ) := (by decide : ∀ g : Fin 32, (BitVec.ofNat 32 g.val).toInt = (g.val : ℤ)) g
  rw [hg, ← EReal.coe_mul, ← EReal.coe_mul]
  refine ⟨_, Ideal.exp2_coe _, ?_⟩
  show |(2 : ℝ) ^ (_ : ℝ)| ≤ 1
  rw [abs_of_nonneg (Real.rpow_nonneg (by norm_num) _)]
  refine Real.rpow_le_one_of_one_le_of_nonpos (by norm_num) ?_
  have : (0 : ℝ) ≤ ((g.val : ℤ) : ℝ) := by positivity
  norm_num

theorem angle_bd (p : BitVec 32) (g : Fin 32) : Bd (2 ^ 31) (angleS p g) := by
  have hp : Bd (2 ^ 31) (((p.toInt : ℝ)) : EReal) := by
    refine ⟨_, rfl, ?_⟩
    have h1 := BitVec.toInt_lt (x := p)
    have h2 := BitVec.le_toInt (x := p)
    rw [abs_le]
    constructor
    · exact_mod_cast (by simpa using h2 : -(2 : ℤ) ^ 31 ≤ p.toInt)
    · exact_mod_cast (by have : p.toInt < (2 : ℤ) ^ 31 := by simpa using h1
                         omega : p.toInt ≤ (2 : ℤ) ^ 31)
  exact (hp.mul (freq_bd g)).mono (by norm_num)

theorem round_near (r : ℝ) : |r - (Ideal.roundHalfEven r : ℝ)| ≤ 1 / 2 := by
  have h1 := Int.floor_le r
  have h2 := Int.lt_floor_add_one r
  unfold Ideal.roundHalfEven
  dsimp only
  split
  · rw [abs_le]; constructor <;> linarith
  · split
    · push_cast; rw [abs_le]; constructor <;> linarith
    · split
      · rw [abs_le]; constructor <;> linarith
      · push_cast; rw [abs_le]; constructor <;> linarith

theorem rest_bd {a : EReal} (ha : Bd (2 ^ 31) a) : Bd (2 ^ 7) (rest (F := Ideal) (S := S0) (fun _ => a) (turns (fun _ => a)) (ix1 0)) := by
  obtain ⟨x, rfl, hx⟩ := ha
  show Bd _ (((((x : ℝ) : EReal) - Ideal.liftRound Ideal.roundHalfEven (((x : ℝ) : EReal) * fb 0x3F22F983#32) * fb 0x3FC90000#32)
    - Ideal.liftRound Ideal.roundHalfEven (((x : ℝ) : EReal) * fb 0x3F22F983#32) * fb 0x39FDA000#32)
    - Ideal.liftRound Ideal.roundHalfEven (((x : ℝ) : EReal) * fb 0x3F22F983#32) * fb 0x33A22169#32)
  rw [fb_normal 0x3F22F983#32 false 126 0x22F983 (by decide) (by decide) (by decide) (by decide),
    fb_normal 0x3FC90000#32 false 127 0x490000 (by decide) (by decide) (by decide) (by decide),
    fb_normal 0x39FDA000#32 false 115 0x7DA000 (by decide) (by decide) (by decide) (by decide),
    fb_normal 0x33A22169#32 false 103 0x222169 (by decide) (by decide) (by decide) (by decide), ← EReal.coe_mul, Ideal.liftRound_coe]
  refine ⟨_, by simp only [← EReal.coe_mul, ← EReal.coe_sub]; rfl, ?_⟩
  have hn := round_near (x * ((if false = true then -1 else 1) * ((2 ^ 23 + 0x22F983 : ℕ) : ℝ) * (2 : ℝ) ^ (((126 : ℕ) : ℤ) - 150)))
  generalize hN : Ideal.roundHalfEven (x * ((if false = true then -1 else 1) * ((2 ^ 23 + 0x22F983 : ℕ) : ℝ) * (2 : ℝ) ^ (((126 : ℕ) : ℤ) - 150))) = N at hn ⊢
  generalize (N : ℝ) = n at hn ⊢
  norm_num at hn ⊢
  rw [abs_le] at hn hx ⊢
  constructor <;> linarith

theorem flip_bd {S : Shape} {B : ℝ} (q : IVec S 32) (v : FVec Ideal S .f32) (i : S.Idx) (h : Bd B (v i)) : Bd B (KernelIdeal.Hand.flip q v i) := by
  show Bd B (if _ then fb 0x00000000#32 - v i else v i)
  split
  · rw [fb_zero]; exact (bd_zero.sub h).mono (by simp)
  · exact h

theorem select_bd {S : Shape} {B : ℝ} (c : IVec S 1) (u v : FVec Ideal S .f32) (i : S.Idx) (hu : Bd B (u i)) (hv : Bd B (v i)) :
    Bd B (select c u v i) := by
  show Bd B (if _ then u i else v i)
  split
  · exact hu
  · exact hv

theorem sinPoly_bd {S : Shape} (r z : FVec Ideal S .f32) (i : S.Idx) (hr : Bd (2 ^ 7) (r i)) (hz : Bd (2 ^ 14) (z i)) :
    Bd (2 ^ 57) (sinPoly r z i) := by
  show Bd _ ((((fb 0xB94CA1F9#32 * z i + fb 0x3C08839E#32) * z i - fb 0x3E2AAAA3#32) * z i) * r i + r i)
  exact ((((((((bd_fb _ (by decide)).mul hz).add (bd_fb _ (by decide))).mul hz).sub (bd_fb _ (by decide))).mul hz).mul hr).add hr).mono
    (by norm_num)

theorem cosPoly_bd {S : Shape} (z : FVec Ideal S .f32) (i : S.Idx) (hz : Bd (2 ^ 14) (z i)) : Bd (2 ^ 57) (cosPoly z i) := by
  show Bd _ ((((((fb 0x37CCF5CE#32 * z i - fb 0x3AB6061A#32) * z i + fb 0x3D2AAAA5#32) * z i) * z i) - fb 0x3F000000#32 * z i) + fb 0x3F800000#32)
  exact (((((((((bd_fb _ (by decide)).mul hz).sub (bd_fb _ (by decide))).mul hz).add (bd_fb _ (by decide))).mul hz).mul hz).sub
    ((bd_fb _ (by decide)).mul hz)).add bd_one).mono (by norm_num)

theorem sin_bd {a : EReal} (ha : Bd (2 ^ 31) a) : Bd (2 ^ 57) (sinS a) := by
  have hr := rest_bd ha
  have hz : Bd (2 ^ 14) (mulf (rest (F := Ideal) (S := S0) (fun _ => a) (turns (fun _ => a))) (rest (fun _ => a) (turns (fun _ => a))) (ix1 0)) :=
    (hr.mul hr).mono (by norm_num)
  exact flip_bd _ _ _ (select_bd _ _ _ _ (cosPoly_bd _ _ hz) (sinPoly_bd _ _ _ hr hz))

theorem cos_bd {a : EReal} (ha : Bd (2 ^ 31) a) : Bd (2 ^ 57) (cosS a) := by
  have hr := rest_bd ha
  have hz : Bd (2 ^ 14) (mulf (rest (F := Ideal) (S := S0) (fun _ => a) (turns (fun _ => a))) (rest (fun _ => a) (turns (fun _ => a))) (ix1 0)) :=
    (hr.mul hr).mono (by norm_num)
  exact flip_bd _ _ _ (select_bd _ _ _ _ (sinPoly_bd _ _ _ hr hz) (cosPoly_bd _ _ hz))

/-- The rotated key. -/
theorem key_bd (k lw lb : Fin 128 → EReal) (p : BitVec 32) (hw : ∀ h, Bd (2 ^ 64) (lw h)) (hb : ∀ h, Bd (2 ^ 64) (lb h)) (h : Fin 128) :
    Bd (2 ^ 126) (keyS k lw lb p h) := by
  have hn := norm_bd k lw lb hw hb
  have hs := fun g => sin_bd (angle_bd p g)
  have hc := fun g => cos_bd (angle_bd p g)
  unfold keyS rotS
  split
  · exact (((hn _).mul (hc _)).sub ((hn _).mul (hs _))).mono (by norm_num)
  · split
    · exact (((hn _).mul (hc _)).add ((hn _).mul (hs _))).mono (by norm_num)
    · exact (hn _).mono (by norm_num)

theorem parity_small : ∀ r c : Fin 128, (1#32 - 2#32 * parityS r c : BitVec 32) = 1#32 ∨ (1#32 - 2#32 * parityS r c : BitVec 32) = -1#32 := by
  intro r c
  unfold parityS
  generalize (BitVec.ofNat 32 r.val &&& BitVec.ofNat 32 c.val) = b
  dsimp only
  generalize ((((((((b >>> 0) &&& 1#32) + ((b >>> 1) &&& 1#32)) + ((b >>> 2) &&& 1#32)) + ((b >>> 3) &&& 1#32)) + ((b >>> 4) &&& 1#32))
    + ((b >>> 5) &&& 1#32)) + ((b >>> 6) &&& 1#32)) = v
  rcases Nat.mod_two_eq_zero_or_one v.toNat with h | h
  · left
    have : v &&& 1#32 = 0#32 := by apply BitVec.eq_of_toNat_eq; simp [Nat.and_one_is_mod, h]
    rw [this]; rfl
  · right
    have : v &&& 1#32 = 1#32 := by apply BitVec.eq_of_toNat_eq; simp [Nat.and_one_is_mod, h]
    rw [this]; rfl

theorem sign_bd (r c : Fin 128) : Bd 1 (signS r c) := by
  unfold signS
  rcases parity_small r c with h | h <;> rw [h]
  · exact ⟨1, by norm_num, by norm_num⟩
  · exact ⟨-1, by rw [show (-1#32 : BitVec 32).toInt = -1 from rfl]; norm_num, by norm_num⟩

/-- The Hadamard product. -/
theorem had_bd (r : Fin 128 → EReal) (hr : ∀ h, Bd (2 ^ 126) (r h)) (c : Fin 128) : Bd (2 ^ 133) (hadS r c) :=
  (bd_sum _ fun h => (hr h).mul (sign_bd h c)).mono (by norm_num)

theorem fb_had : ∃ e : ℝ, 0 < e ∧ e ≤ 1 ∧ fb 0x3DB504F3#32 = (e : EReal) := by
  refine ⟨_, ?_, ?_, fb_normal _ false 123 0x3504F3 (by decide) (by decide) (by decide) (by decide)⟩ <;> norm_num

theorem fb_c448 : ∃ e : ℝ, 0 < e ∧ e ≤ 1 / 256 ∧ fb 0x3B124925#32 = (e : EReal) := by
  refine ⟨_, ?_, ?_, fb_normal _ false 118 0x124925 (by decide) (by decide) (by decide) (by decide)⟩ <;> norm_num

/-- The largest magnitude of a group is between zero and a bound of its members. -/
theorem amax_range (y : Fin 32 → EReal) {B : ℝ} (hy : ∀ x, Bd B (y x)) : 0 ≤ amaxS y ∧ amaxS y ≤ (B : EReal) := by
  unfold amaxS
  constructor
  · rw [Finset.le_fold_max]
    right
    refine ⟨0, Finset.mem_univ _, ?_⟩
    obtain ⟨r, e, b⟩ := hy 0
    rw [e, ← EReal.coe_neg, le_max_iff]
    rcases le_total 0 r with h | h
    · left; exact_mod_cast h
    · right; exact_mod_cast (by linarith : 0 ≤ -r)
  · rw [Finset.fold_max_le]
    refine ⟨by rw [fb_bot]; exact bot_le, fun x _ => ?_⟩
    obtain ⟨r, e, b⟩ := hy x
    rw [e, ← EReal.coe_neg, max_le_iff]
    exact ⟨by exact_mod_cast (le_abs_self r).trans b, by exact_mod_cast (neg_le_abs r).trans b⟩

/-- The scale of a group is in the range of the exponent's search. -/
theorem scale_range (y : Fin 32 → EReal) (hy : ∀ x, Bd (2 ^ 133) (y x)) :
    0 ≤ amaxS y * fb 0x3DB504F3#32 * fb 0x3B124925#32 ∧ amaxS y * fb 0x3DB504F3#32 * fb 0x3B124925#32 < pw 253 := by
  obtain ⟨h0, h1⟩ := amax_range y hy
  obtain ⟨e, he, he', hh⟩ := fb_had
  obtain ⟨f, hf, hf', hc⟩ := fb_c448
  rw [hh, hc]
  have hE : (0 : EReal) ≤ (e : EReal) := by exact_mod_cast he.le
  have hF : (0 : EReal) ≤ (f : EReal) := by exact_mod_cast hf.le
  refine ⟨mul_nonneg (mul_nonneg h0 hE) hF, ?_⟩
  refine lt_of_le_of_lt (mul_le_mul_of_nonneg_right (mul_le_mul_of_nonneg_right h1 hE) hF) ?_
  rw [← EReal.coe_mul, ← EReal.coe_mul]
  unfold pw
  rw [if_neg (by norm_num), if_pos (by norm_num)]
  apply EReal.coe_lt_coe_iff.2
  calc (2 : ℝ) ^ 133 * e * f ≤ 2 ^ 133 * 1 * (1 / 256) := by gcongr
    _ < _ := by norm_num

/-- The kernel's code is the stated one, and so is its byte. -/
theorem quant_eq (y : Fin 32 → EReal) (hy : ∀ x, Bd (2 ^ 133) (y x)) (v : EReal) :
    codeK v (amaxS y * fb 0x3DB504F3#32 * fb 0x3B124925#32)
        = code (v * fb 0x3DB504F3#32) (amaxS (fun x => y x * fb 0x3DB504F3#32) * fb 0x3B124925#32) ∧
      byteK (amaxS y * fb 0x3DB504F3#32 * fb 0x3B124925#32) = byte (amaxS (fun x => y x * fb 0x3DB504F3#32) * fb 0x3B124925#32) := by
  obtain ⟨h0, h1⟩ := scale_range y hy
  obtain ⟨e, he, _, hh⟩ := fb_had
  have hs : amaxS (fun x => y x * fb 0x3DB504F3#32) = amaxS y * fb 0x3DB504F3#32 :=
    amaxS_scaled y (by rw [hh]; exact_mod_cast he) (by rw [hh]; exact EReal.coe_ne_top _)
  rw [hs]
  exact ⟨code_spec v h0 h1, byte_spec h0 h1⟩

end Cert.Key

end
-- ==== Proof.KernelOut.lean ====
/-
  The blocks that the kernel stores, as the problem's mathematics: each token's codes and exponent bytes.
-/
module

public import proofs.«01_k».proof.Proof.KeyValue
public import proofs.«01_k».proof.Proof.Bounds

@[expose] public section

noncomputable section

namespace Cert.Key

open Idealize.ShloMosaic
open scoped BigOperators

/-- A token's scaled Hadamard product, from its projection `k`, the norm's weight and bias and its position; -/
def yOut (k lw lb : Fin 128 → EReal) (p : BitVec 32) (c : Fin 128) : EReal := hadS (keyS k lw lb p) c * fb 0x3DB504F3#32

/-- its codes; -/
def codeOut (k lw lb : Fin 128 → EReal) (p : BitVec 32) (c : Fin 128) : EReal :=
  code (yOut k lw lb p c) (amaxS (fun x => yOut k lw lb p ⟨32 * (c / 32) + x, by omega⟩) * fb 0x3B124925#32)

/-- its exponent bytes. -/
def byteOut (k lw lb : Fin 128 → EReal) (p : BitVec 32) (g : Fin 4) : BitVec 8 :=
  byte (amaxS (fun x => yOut k lw lb p ⟨32 * g + x, by omega⟩) * fb 0x3B124925#32)

/-- The projection of token `t`. -/
def projS (X : Fin 2304 → Fin 2048 → EReal) (W : Fin 128 → Fin 2048 → EReal) (t : Fin 2304) (h : Fin 128) : EReal := ∑ d, W h d * X t d

end Cert.Key

namespace Cert.KernelIdeal.Hand

open Cert.KernelIdeal Cert.KernelIdeal.Gen Cert.Key Idealize.ShloMosaic Idealize.SL.Sem
open Idealize.ShloMosaic.Pointwise
open scoped BigOperators

/-- What the loads hold: tokens `X`, weights `W`, the norm's `lw` and `lb`, and the position `P` of every token. -/
structure Holds (I : Ins Ideal) (X : Fin 2304 → Fin 2048 → EReal) (W : Fin 128 → Fin 2048 → EReal) (lw lb : Fin 128 → EReal)
    (P : Fin 2304 → BitVec 32) : Prop where
  x : ∀ (i : Fin 9) (q : Fin 8) (t k : Fin 256), I.x i q (ix2 t k) = X ⟨256 * i + t, by omega⟩ ⟨256 * q + k, by omega⟩
  w : ∀ (q : Fin 8) (h : Fin 128) (k : Fin 256), I.w q (ix2 h k) = W h ⟨256 * q + k, by omega⟩
  lw : ∀ h c : Fin 128, I.lnw (ix2 h c) = lw h
  lb : ∀ h c : Fin 128, I.lnb (ix2 h c) = lb h
  pos : ∀ (i : Fin 9) (h : Fin 2) (c : Fin 128), posOf I i h + BitVec.ofNat 32 c.val = P ⟨256 * i + (128 * h + c), by omega⟩
  freq : ∀ (g : Fin 32) (c : Fin 128), I.freq (ix2 g c) = freqS g
  had : ∀ (c : Fin 128) (k : Fin 256), I.had (ix2 c k) = signS ⟨k.val % 128, by omega⟩ c

variable {I : Ins Ideal} {X : Fin 2304 → Fin 2048 → EReal} {W : Fin 128 → Fin 2048 → EReal} {lw lb : Fin 128 → EReal} {P : Fin 2304 → BitVec 32}

theorem Holds.key (H : Holds I X W lw lb P) (i : Fin 9) (a : Fin 2) (h c : Fin 128) :
    rTile I i a (ix2 h c) = keyS (projS X W ⟨256 * i + (128 * a + c), by omega⟩) lw lb (P ⟨256 * i + (128 * a + c), by omega⟩) h := by
  have hk : ∀ x : Fin 128, (match a with | 0 => half0 (kTile I i) | 1 => half1 (kTile I i)) (ix2 x c)
      = projS X W ⟨256 * i + (128 * a + c), by omega⟩ x := fun x => by
    match a with
    | 0 =>
      refine ((half_apply (kTile I i) x c).1.trans (kTile_apply I X W H.x H.w i x _)).trans ?_
      unfold projS
      have e : (⟨256 * i.val + c.val, by omega⟩ : Fin 2304) = ⟨256 * i.val + (128 * 0 + c.val), by omega⟩ := Fin.ext (by simp)
      exact congrArg (fun t => ∑ d, W x d * X t d) e
    | 1 => exact (half_apply (kTile I i) x c).2.trans (kTile_apply I X W H.x H.w i x _)
  unfold rTile keyHalf
  rw [keyBlk_apply]
  unfold keyS
  congr 1
  · congr 1
    · exact funext hk
    · exact funext fun x => H.lw x c
    · exact funext fun x => H.lb x c
  · funext g
    rw [angles_apply _ _ _ _ (H.freq g c), H.pos]

theorem Holds.tile (H : Holds I X W lw lb P) (hw : ∀ h, Bd (2 ^ 64) (lw h)) (hb : ∀ h, Bd (2 ^ 64) (lb h)) (i : Fin 9) (c : Fin 128) (t : Fin 256) :
    yTile I i.val (ix2 c t) = hadS (keyS (projS X W ⟨256 * i + t, by omega⟩) lw lb (P ⟨256 * i + t, by omega⟩)) c := by
  refine yTile_apply I H.had i (fun t => keyS (projS X W ⟨256 * i + t, by omega⟩) lw lb (P ⟨256 * i + t, by omega⟩)) (fun h c => ?_) (fun h c => ?_)
    (fun t h => ?_) c t
  · rw [H.key]; congr 2 <;> simp
  · rw [H.key]; rfl
  · obtain ⟨r, e, _⟩ := key_bd (projS X W ⟨256 * i + t, by omega⟩) lw lb (P ⟨256 * i + t, by omega⟩) hw hb h
    show keyS _ _ _ _ _ ≠ ⊤ ∧ keyS _ _ _ _ _ ≠ ⊥
    rw [e]
    exact ⟨EReal.coe_ne_top _, EReal.coe_ne_bot _⟩

theorem Holds.blk (H : Holds I X W lw lb P) (hw : ∀ h, Bd (2 ^ 64) (lw h)) (hb : ∀ h, Bd (2 ^ 64) (lb h)) (m : Fin 18) (c t : Fin 128) :
    yBlk I m.val (ix2 c t) = hadS (keyS (projS X W ⟨128 * m + t, by omega⟩) lw lb (P ⟨128 * m + t, by omega⟩)) c := by
  unfold yBlk
  split
  · rename_i h
    rw [(half_apply _ c t).1, H.tile hw hb ⟨m.val / 2, by omega⟩]
    have e : (⟨256 * (m.val / 2) + t.val, by omega⟩ : Fin 2304) = ⟨128 * m.val + t.val, by omega⟩ := Fin.ext (by simp; omega)
    dsimp only
    rw [e]
  · rename_i h
    rw [(half_apply _ c t).2, H.tile hw hb ⟨m.val / 2, by omega⟩]
    have e : (⟨256 * (m.val / 2) + (128 + t.val), by omega⟩ : Fin 2304) = ⟨128 * m.val + t.val, by omega⟩ := Fin.ext (by simp; omega)
    dsimp only
    rw [e]

theorem had_key_bd (hw : ∀ h, Bd (2 ^ 64) (lw h)) (hb : ∀ h, Bd (2 ^ 64) (lb h)) (k : Fin 128 → EReal) (p : BitVec 32) (c : Fin 128) :
    Bd (2 ^ 133) (hadS (keyS k lw lb p) c) :=
  had_bd _ (fun h => key_bd k lw lb p hw hb h) c

/-- The codes that the kernel stores in block `m`. -/
theorem Holds.codes (H : Holds I X W lw lb P) (hw : ∀ h, Bd (2 ^ 64) (lw h)) (hb : ∀ h, Bd (2 ^ 64) (lb h)) (m : Fin 18) (t c : Fin 128) :
    codesBlk (yBlk I m.val) (ix2 t c) = codeOut (projS X W ⟨128 * m + t, by omega⟩) lw lb (P ⟨128 * m + t, by omega⟩) c := by
  rw [codesBlk_apply]
  simp only [H.blk hw hb]
  exact (quant_eq _ (fun x => had_key_bd hw hb _ _ _) _).1

/-- The exponent bytes that it stores. -/
theorem Holds.scale (H : Holds I X W lw lb P) (hw : ∀ h, Bd (2 ^ 64) (lw h)) (hb : ∀ h, Bd (2 ^ 64) (lb h)) (m : Fin 18) (g : Fin 4) (t : Fin 128) :
    scaleBlk (yBlk I m.val) (ix3 0 g t) = byteOut (projS X W ⟨128 * m + t, by omega⟩) lw lb (P ⟨128 * m + t, by omega⟩) g := by
  rw [scaleBlk_apply]
  · simp only [H.blk hw hb]
    exact (quant_eq _ (fun x => had_key_bd hw hb _ _ _) 0).2
  · intro g
    rw [expoG_apply]
    simp only [grp_apply, H.blk hw hb]
    obtain ⟨h0, h1⟩ := scale_range _ (fun x : Fin 32 => had_key_bd hw hb (projS X W ⟨128 * m + t, by omega⟩) (P ⟨128 * m + t, by omega⟩) ⟨32 * g + x, by omega⟩)
    exact byte_small h0 h1

end Cert.KernelIdeal.Hand

end
-- ==== Proof.Loads.lean ====
/-
  What the kernel's loads hold, from the arrays of the call.
-/
module

public import proofs.«01_k».proof.Proof.Bridge
public import proofs.«01_k».proof.Proof.KernelOut
public import Idealize.ShloMosaic.Lib.VecWindow

@[expose] public section

set_option maxRecDepth 16384
set_option maxHeartbeats 400000

noncomputable section

namespace Cert.KernelIdeal.Hand

open Cert.KernelIdeal Cert.KernelIdeal.Gen Cert.Key
open Idealize.ShloMosaic Idealize.ShloMosaic.TcCoe Idealize.SL.Sem
open Idealize.ShloMosaic.Pointwise
open kernelRun.sl

/-- The parity found by folding seven bits is that of their sum. -/
theorem fold_parity : ∀ n : Fin 128,
    (let b : BitVec 32 := BitVec.ofNat 32 n.val
     let v1 := IntOp.xori b (IntOp.shrsi .vector b 4#32)
     let v2 := IntOp.xori v1 (IntOp.shrsi .vector v1 2#32)
     IntOp.subi 1#32 (IntOp.muli 2#32 (IntOp.andi (IntOp.xori v2 (IntOp.shrsi .vector v2 1#32)) 1#32))) =
    (let b : BitVec 32 := BitVec.ofNat 32 n.val
     1#32 - 2#32 * (((((((((b >>> 0) &&& 1#32) + ((b >>> 1) &&& 1#32)) + ((b >>> 2) &&& 1#32)) + ((b >>> 3) &&& 1#32)) + ((b >>> 4) &&& 1#32))
      + ((b >>> 5) &&& 1#32)) + ((b >>> 6) &&& 1#32)) &&& 1#32)) := by decide +kernel

theorem common_bits (c : Fin 128) (k : Fin 256) : ∃ n : Fin 128,
    IntOp.andi (BitVec.ofNat 32 c.val) (BitVec.ofNat 32 k.val) = BitVec.ofNat 32 n.val ∧
      (BitVec.ofNat 32 (k.val % 128) &&& BitVec.ofNat 32 c.val) = BitVec.ofNat 32 n.val := by
  refine ⟨⟨c.val &&& k.val, Nat.lt_of_le_of_lt Nat.and_le_left c.isLt⟩, (BitVec.ofNat_and ..).symm, ?_⟩
  rw [← BitVec.ofNat_and]
  congr 1
  apply Nat.eq_of_testBit_eq
  intro i
  have hm : (k.val % 128).testBit i = (decide (i < 7) && k.val.testBit i) := Nat.testBit_mod_two_pow k.val 7 i
  rw [Nat.testBit_and, Nat.testBit_and, hm]
  by_cases h : i < 7
  · simp [h, Bool.and_comm]
  · have : c.val.testBit i = false := Nat.testBit_lt_two_pow (lt_of_lt_of_le c.isLt (Nat.pow_le_pow_right (show 2 > 0 by norm_num) (show 7 ≤ i by omega)))
    simp [this]

theorem had_apply (c : Fin 128) (k : Fin 256) : k0_pay3 (F := Ideal) (ix2 c k) = signS ⟨k.val % 128, by omega⟩ c := by
  obtain ⟨n, h1, h2⟩ := common_bits c k
  pointwise [k0_pay3]
  unfold signS parityS
  rw [h1]
  dsimp only
  rw [h2]
  exact congrArg (fun b : BitVec 32 => ((b.toInt : ℝ) : EReal)) (fold_parity n)

theorem freq_apply (g : Fin 32) (c : Fin 128) : k0_pay2 (F := Ideal) (ix2 g c) = freqS g := by
  pointwise [k0_pay2]
  rfl

variable (c : Dev nD) (f0 : Bf (F := Ideal) c hb0) (f1 : Bf (F := Ideal) c hb1) (f2 : Bf (F := Ideal) c hb2) (f3 : Bf (F := Ideal) c hb3) (f4 : Bf (F := Ideal) c hb4) (f5 : Bf (F := Ideal) c hb5)
  (s1 : Bf (F := Ideal) c sc1) (s5 : Bf (F := Ideal) c sc5) (s6 : Bf (F := Ideal) c sc6) (s11 : Bf (F := Ideal) c sc11) (s12 : Bf (F := Ideal) c sc12)

theorem lnw_apply (h t : Fin 128) : v292_r0 c f3 s5 (ix2 h t) = View.read (Elt Ideal) hb3.view f3 (ix2 0 h) := by
  have e : v292_r0 c f3 s5 = k0_pay24 (View.read (Elt Ideal) hb3.view f3) := by
    unfold v292_r0 S7_1
    rw [View.readCov_cons_toLoadRect]
    congr 1
    funext j
    rw [View.readAt_apply, View.read_write_univ]
    show View.read (Elt Ideal) hb3.view f3 _ = _
    congr 1
    exact Rect.emb_unit_full (s := S1x128) _ j
  rw [e]
  pointwise [k0_pay24]

theorem lnb_apply (h t : Fin 128) : v294_r0 c f4 s6 (ix2 h t) = View.read (Elt Ideal) hb4.view f4 (ix2 0 h) := by
  have e : v294_r0 c f4 s6 = k0_pay25 (View.read (Elt Ideal) hb4.view f4) := by
    unfold v294_r0 S8_1
    rw [View.readCov_cons_toLoadRect]
    congr 1
    funext j
    rw [View.readAt_apply, View.read_write_univ]
    show View.read (Elt Ideal) hb4.view f4 _ = _
    congr 1
    exact Rect.emb_unit_full (s := S1x128) _ j
  rw [e]
  pointwise [k0_pay25]

theorem inb_wp (j : Fin 16) : ∀ a, (![0, 128 * j.val] : Fin 2 → Nat) a + S128x128.size a ≤ S128x2048.size a := by
  intro a; match a with
  | 0 => show 0 + 128 ≤ 128; omega
  | 1 => show 128 * j.val + 128 ≤ 2048; omega

theorem inb_ws (j : Fin 16) : ∀ a, (![j.val] : Fin 1 → Nat) a + S1.size a ≤ S16.size a := by
  intro a; match a with
  | 0 => show j.val + 1 ≤ 16; omega

/-- Column block `j` of the weights, multiplied by its scale. -/
def wPiece (j : Fin 16) : View.Piece (Elt Ideal) S128x2048 .bf16 :=
  ⟨Rect.unit (s := S128x2048) ![0, 128 * j.val] S128x128.size (inb_wp j),
   k0_pay9 (View.readAt (Elt Ideal) sc12.view (Rect.unit (s := S16) ![j.val] S1.size (inb_ws j)).toLoadRect
      (View.write (Elt Ideal) sc12.view s12 (dma0_1 c f2) Finset.univ) (Shape.Idx.first (by show 0 < S1.numel; decide)))
    (View.readAt (Elt Ideal) sc1.view (Rect.unit (s := S128x2048) ![0, 128 * j.val] S128x128.size (inb_wp j)).toLoadRect
      (View.write (Elt Ideal) sc1.view s1 (dma0 c f1) Finset.univ))⟩

theorem pay9_apply (s : EReal) (v : Vec Ideal S128x128 .fp8e4m3) (i : S128x128.Idx) : k0_pay9 (F := Ideal) s v i = (v i * s : EReal) := by
  obtain ⟨a, b, rfl⟩ : ∃ a b, i = ix2 a b := ⟨i 0, i 1, funext fun k => by match k with | 0 => rfl | 1 => rfl⟩
  pointwise [k0_pay9]

theorem weights_eq : S2_16 c f1 f2 s1 s12 = (List.finRange 16).reverse.map (wPiece c f1 f2 s1 s12) := by
  sl_kernel_rfl

theorem wPiece_apply (j : Fin 16) (x : S128x128.Idx) : (wPiece c f1 f2 s1 s12 j).2 x
    = (View.read (Elt Ideal) hb1.view f1 ((Rect.unit (s := S128x2048) ![0, 128 * j.val] S128x128.size (inb_wp j)).emb x)
        * View.read (Elt Ideal) hb2.view f2 (ix1 ⟨(128 * j.val + 1 * (x 1).val) / 128, by have : (x 1).val < 128 := (x 1).isLt; omega⟩) : EReal) := by
  have hx : (x 1).val < 128 := (x 1).isLt
  refine (pay9_apply _ _ x).trans ?_
  rw [View.readAt_apply, View.readAt_apply, View.read_write_univ, View.read_write_univ]
  refine congrArg₂ (fun a b : EReal => a * b) rfl ?_
  refine congrArg (View.read (Elt Ideal) hb2.view f2) (funext fun a => Fin.ext ?_)
  match a with
  | 0 => show j.val + 1 * 0 = (128 * j.val + 1 * (x 1).val) / 128; omega

theorem w_apply (q : Fin 8) (h : Fin 128) (k : Fin 256) :
    sc2.view.readCov (S2_16 c f1 f2 s1 s12) (Rect.unit (s := S128x2048) ![0, 256 * q.val] S128x256.size (inb_w q)).toLoadRect (ix2 h k)
      = (View.read (Elt Ideal) hb1.view f1 (ix2 h ⟨256 * q + k, by omega⟩) * View.read (Elt Ideal) hb2.view f2 (ix1 ⟨(256 * q + k) / 128, by omega⟩) : EReal) := by
  rw [weights_eq, View.readCov_eq_canon']
  show View.canon _ _ = _
  have hy : ∀ y : S128x2048.Idx, View.canon ((List.finRange 16).reverse.map (wPiece c f1 f2 s1 s12)) y
      = (View.read (Elt Ideal) hb1.view f1 y * View.read (Elt Ideal) hb2.view f2 (ix1 ⟨(y 1).val / 128, by have := (y 1).isLt; show _ < 16; have : (y 1).val < 2048 := (y 1).isLt; omega⟩) : EReal) := by
    intro y
    refine View.canon_apply_of_pieces (Val := Elt Ideal) (e := .bf16) (fun y => (View.read (Elt Ideal) hb1.view f1 y * View.read (Elt Ideal) hb2.view f2 (ix1 ⟨(y 1).val / 128, by have : (y 1).val < 2048 := (y 1).isLt; show _ < 16; omega⟩) : EReal)) _ ?_ y ?_
    · intro p hp x
      obtain ⟨j, -, rfl⟩ := List.mem_map.1 hp
      exact wPiece_apply c f1 f2 s1 s12 j x
    · have h1 : (y 1).val < 2048 := (y 1).isLt
      refine ⟨wPiece c f1 f2 s1 s12 ⟨(y 1).val / 128, by omega⟩, List.mem_map.2 ⟨_, by simp, rfl⟩, ?_⟩
      refine (Rect.mem_set_unit (inb := inb_wp ⟨(y 1).val / 128, by omega⟩)).2 fun a => ?_
      match a with
      | 0 => exact ⟨Nat.zero_le _, (y 0).isLt⟩
      | 1 => show 128 * ((y 1).val / 128) ≤ (y 1).val ∧ (y 1).val < 128 * ((y 1).val / 128) + 128; omega
  rw [hy]
  have e : (Rect.unit (s := S128x2048) ![0, 256 * q.val] S128x256.size (inb_w q)).toLoadRect.idx (ix2 h k) = ix2 h ⟨256 * q + k, by omega⟩ := by
    funext a
    match a with
    | 0 => exact Fin.ext (by show 0 + 1 * h.val = h.val; omega)
    | 1 => exact Fin.ext (by show 256 * q.val + 1 * k.val = 256 * q.val + k.val; omega)
  rw [e]
  rfl

theorem x_pieces : ∀ p ∈ xPieces c f0, ∀ x : p.1.shape.Idx, p.2 x = View.read (Elt Ideal) hb0.view f0 (p.1.emb x) := by
  intro p hp x
  unfold xPieces at hp
  simp only [List.mem_cons, List.not_mem_nil, or_false] at hp
  rcases hp with rfl | rfl | rfl | rfl <;> rfl

theorem x_apply (i : Fin 9) (q : Fin 8) (t k : Fin 256) :
    sc0.view.readCov (xPieces c f0) (Rect.unit (s := S2304x2048) ![256 * i.val, 256 * q.val] S256x256.size (inb_x i q)).toLoadRect (ix2 t k)
      = View.read (Elt Ideal) hb0.view f0 (ix2 ⟨256 * i + t, by omega⟩ ⟨256 * q + k, by omega⟩) := by
  rw [View.readCov_eq_canon']
  show View.canon _ _ = _
  have e : (Rect.unit (s := S2304x2048) ![256 * i.val, 256 * q.val] S256x256.size (inb_x i q)).toLoadRect.idx (ix2 t k)
      = ix2 ⟨256 * i + t, by omega⟩ ⟨256 * q + k, by omega⟩ := by
    funext a
    match a with
    | 0 => exact Fin.ext (by show 256 * i.val + 1 * t.val = 256 * i.val + t.val; omega)
    | 1 => exact Fin.ext (by show 256 * q.val + 1 * k.val = 256 * q.val + k.val; omega)
  rw [e]
  refine View.canon_apply_of_pieces (View.read (Elt Ideal) hb0.view f0) _ (x_pieces c f0) _ ?_
  have row : ∀ (o n : ℕ) (inb : ∀ a, (![o, 0] : Fin 2 → Nat) a + (![n, 2048] : Fin 2 → Nat) a ≤ S2304x2048.size a),
      o ≤ 256 * i.val + t.val → 256 * i.val + t.val < o + n →
      (ix2 ⟨256 * i + t, by omega⟩ ⟨256 * q + k, by omega⟩ : S2304x2048.Idx) ∈ (Rect.unit ![o, 0] ![n, 2048] inb).set := by
    intro o n inb h1 h2
    refine Rect.mem_set_unit.2 fun a => ?_
    match a with
    | 0 => exact ⟨h1, h2⟩
    | 1 => exact ⟨Nat.zero_le _, by show 256 * q.val + k.val < 0 + 2048; omega⟩
  unfold xPieces
  by_cases h1 : 1536 ≤ 256 * i.val + t.val
  · exact ⟨_, List.mem_cons_self, row 1536 768 inb_S2304x2048_S768x2048_1536_0 h1 (by omega)⟩
  · by_cases h2 : 768 ≤ 256 * i.val + t.val
    · exact ⟨_, List.mem_cons_of_mem _ List.mem_cons_self, row 768 768 inb_S2304x2048_S768x2048_768_0 h2 (by omega)⟩
    · by_cases h3 : 256 ≤ 256 * i.val + t.val
      · exact ⟨_, List.mem_cons_of_mem _ (List.mem_cons_of_mem _ List.mem_cons_self), row 256 512 inb_S2304x2048_S512x2048_256_0 h3 (by omega)⟩
      · exact ⟨_, List.mem_cons_of_mem _ (List.mem_cons_of_mem _ (List.mem_cons_of_mem _ List.mem_cons_self)), row 0 256 inb_S2304x2048_S256x2048_0_0 (by omega) (by omega)⟩

theorem pos_apply (b : Fin 6) :
    View.readAt (Elt Ideal) sc11.view (Rect.unit (s := S6x384) ![b.val, 0] S1x1.size (inb_pos b)).toLoadRect
      (View.write (Elt Ideal) sc11.view s11 (dma0_4 c f5) Finset.univ) (Shape.Idx.first (by show 0 < S1x1.numel; decide))
      = View.read (Elt Ideal) hb5.view f5 (ix2 b 0) := by
  rw [View.readAt_apply, View.read_write_univ]
  refine congrArg (View.read (Elt Ideal) hb5.view f5) (funext fun a => Fin.ext ?_)
  match a with
  | 0 => rfl
  | 1 => rfl

/-- The arrays of the call: tokens, weights, scales, the norm's weight and bias, positions. -/
def xA : S2304x2048.Idx → EReal := View.read (Elt Ideal) hb0.view f0
def wA : S128x2048.Idx → EReal := View.read (Elt Ideal) hb1.view f1
def sA : S16.Idx → EReal := View.read (Elt Ideal) hb2.view f2
def lwA : S1x128.Idx → EReal := View.read (Elt Ideal) hb3.view f3
def lbA : S1x128.Idx → EReal := View.read (Elt Ideal) hb4.view f4
def pA : S6x384.Idx → BitVec 32 := View.read (Elt Ideal) hb5.view f5

theorem pos_half (I : Ins Ideal) (P : Fin 2304 → BitVec 32) (hP : ∀ (b : Fin 6) (t : Fin 384), I.pos b + BitVec.ofNat 32 t.val = P ⟨384 * b + t, by omega⟩)
    (i : Fin 9) (h : Fin 2) (t : Fin 128) : posOf I i h + BitVec.ofNat 32 t.val = P ⟨256 * i + (128 * h + t), by omega⟩ := by
  have e := hP ⟨(2 * i.val + h.val) / 3, by omega⟩ ⟨(2 * i.val + h.val) % 3 * 128 + t.val, by omega⟩
  have e2 : (⟨384 * ((2 * i.val + h.val) / 3) + ((2 * i.val + h.val) % 3 * 128 + t.val), by omega⟩ : Fin 2304)
      = ⟨256 * i.val + (128 * h.val + t.val), by omega⟩ := Fin.ext (by dsimp only; omega)
  rw [← e2]
  refine Eq.trans ?_ e
  show (_ + BitVec.ofNat 32 ((2 * i.val + h.val) % 3 * 128)) + BitVec.ofNat 32 t.val = _
  rw [BitVec.add_assoc, ← BitVec.ofNat_add]

theorem freq_load (g : Fin 32) (t : Fin 128) : v302_r0 (F := Ideal) (ix2 g t) = freqS g := by
  unfold v302_r0 S9_1
  rw [View.readCov_cons_toLoadRect]
  exact freq_apply g t

theorem had_load (t : Fin 128) (k : Fin 256) : v491_r0 (F := Ideal) (ix2 t k) = signS ⟨k.val % 128, by omega⟩ t := by
  unfold v491_r0 S10_1
  rw [View.readCov_cons_toLoadRect]
  exact had_apply t k

/-- What the run loads holds the arrays of the call: `P` is the position of every token, the first of its sequence's plus its place there. -/
theorem holds_ins (P : Fin 2304 → BitVec 32) (hP : ∀ (b : Fin 6) (t : Fin 384), pA c f5 (ix2 b 0) + BitVec.ofNat 32 t.val = P ⟨384 * b + t, by omega⟩) :
    Holds (insOf c f0 f1 f2 f3 f4 f5 s1 s5 s6 s11 s12) (fun t d => xA c f0 (ix2 t d)) (fun h d => wA c f1 (ix2 h d) * sA c f2 (ix1 ⟨d / 128, by omega⟩))
      (fun h => lwA c f3 (ix2 0 h)) (fun h => lbA c f4 (ix2 0 h)) P := by
  unfold insOf
  refine Holds.mk ?_ ?_ ?_ ?_ ?_ ?_ ?_ <;> dsimp only
  · exact x_apply c f0
  · exact w_apply c f1 f2 s1 s12
  · exact lnw_apply c f3 s5
  · exact lnb_apply c f4 s6
  · refine pos_half _ P fun b t => ?_
    rw [← hP]
    exact congrArg (fun p : BitVec 32 => p + BitVec.ofNat 32 t.val) (pos_apply c f5 s11 b)
  · exact freq_load
  · exact had_load

end Cert.KernelIdeal.Hand

end
-- ==== Proof.KernelArrays.lean ====
/-
  The kernel's two result arrays after its run, as the problem's mathematics of the call's arrays.
-/
module

public import proofs.«01_k».proof.Proof.Loads

@[expose] public section

set_option maxRecDepth 16384
set_option maxHeartbeats 400000

noncomputable section

namespace Cert.Key

open Idealize.ShloMosaic

/-- The codes of every token; -/
def codesArr (X : Fin 2304 → Fin 2048 → EReal) (W : Fin 128 → Fin 2048 → EReal) (lw lb : Fin 128 → EReal) (P : Fin 2304 → BitVec 32)
    (t : Fin 2304) (c : Fin 128) : EReal := codeOut (projS X W t) lw lb (P t) c

/-- the exponent bytes of every sequence. -/
def bytesArr (X : Fin 2304 → Fin 2048 → EReal) (W : Fin 128 → Fin 2048 → EReal) (lw lb : Fin 128 → EReal) (P : Fin 2304 → BitVec 32)
    (b : Fin 6) (g : Fin 4) (t : Fin 384) : BitVec 8 :=
  byteOut (projS X W ⟨384 * b + t, by omega⟩) lw lb (P ⟨384 * b + t, by omega⟩) g

end Cert.Key

namespace Cert.KernelIdeal.Hand

open Cert.KernelIdeal Cert.KernelIdeal.Gen Cert.Key
open Idealize.ShloMosaic Idealize.ShloMosaic.TcCoe Idealize.SL.Sem
open Idealize.ShloMosaic.Pointwise
open kernelRun.sl

section Pieces

variable {I : Ins Ideal} {X : Fin 2304 → Fin 2048 → EReal} {W : Fin 128 → Fin 2048 → EReal} {lw lb : Fin 128 → EReal} {P : Fin 2304 → BitVec 32}

variable (X W lw lb P) in
/-- The codes by index, -/
def codesAt (y : S2304x128.Idx) : EReal := codesArr X W lw lb P (y 0) (y 1)

variable (X W lw lb P) in
/-- the exponent bytes by index. -/
def bytesAt (y : S6x4x384.Idx) : BitVec 8 := bytesArr X W lw lb P (y 0) (y 1) (y 2)

/-- The stores of block `m`. -/
def codesPiece (I : Ins Ideal) (m : Fin 18) : View.Piece (Elt Ideal) S2304x128 .fp8e4m3 :=
  ⟨Rect.unit ![128 * m.val, 0] S128x128.size (inb_codes m.val m.isLt), codesBlk (yBlk I m.val)⟩

def scalePiece (I : Ins Ideal) (m : Fin 18) : View.Piece (Elt Ideal) S6x4x384 .i8 :=
  ⟨Rect.unit ![m.val / 3, 0, 128 * (m.val % 3)] S1x4x128.size (inb_scale m.val m.isLt), scaleBlk (yBlk I m.val)⟩

theorem mem_codesPieces (p : View.Piece (Elt Ideal) S2304x128 .fp8e4m3) : ∀ (n : ℕ) (h : n ≤ 18), p ∈ codesPieces I n h ↔ ∃ m : Fin 18, m.val < n ∧ p = codesPiece I m
  | 0, _ => by simp [codesPieces]
  | n + 1, h => by
    unfold codesPieces
    rw [List.mem_cons, mem_codesPieces p n (by omega)]
    constructor
    · rintro (e | ⟨m, hm, e⟩)
      · exact ⟨⟨n, by omega⟩, Nat.lt_succ_self n, e⟩
      · exact ⟨m, by omega, e⟩
    · rintro ⟨m, hm, e⟩
      rcases Nat.lt_succ_iff_lt_or_eq.1 hm with h' | h'
      · exact Or.inr ⟨m, h', e⟩
      · refine Or.inl ?_
        subst h'
        exact e

theorem mem_scalePieces (p : View.Piece (Elt Ideal) S6x4x384 .i8) : ∀ (n : ℕ) (h : n ≤ 18), p ∈ scalePieces I n h ↔ ∃ m : Fin 18, m.val < n ∧ p = scalePiece I m
  | 0, _ => by simp [scalePieces]
  | n + 1, h => by
    unfold scalePieces
    rw [List.mem_cons, mem_scalePieces p n (by omega)]
    constructor
    · rintro (e | ⟨m, hm, e⟩)
      · exact ⟨⟨n, by omega⟩, Nat.lt_succ_self n, e⟩
      · exact ⟨m, by omega, e⟩
    · rintro ⟨m, hm, e⟩
      rcases Nat.lt_succ_iff_lt_or_eq.1 hm with h' | h'
      · exact Or.inr ⟨m, h', e⟩
      · refine Or.inl ?_
        subst h'
        exact e

theorem codesPiece_apply (H : Holds I X W lw lb P) (hw : ∀ h, Bd (2 ^ 64) (lw h)) (hb : ∀ h, Bd (2 ^ 64) (lb h)) (m : Fin 18) (x : S128x128.Idx) :
    (codesPiece I m).2 x = codesAt X W lw lb P ((codesPiece I m).1.emb x) := by
  obtain ⟨t, c, rfl⟩ : ∃ (t c : Fin 128), x = ix2 t c := ⟨x 0, x 1, funext fun k => by match k with | 0 => rfl | 1 => rfl⟩
  have e0 : (codesPiece I m).1.emb (ix2 t c) 0 = (⟨128 * m + t, by omega⟩ : Fin 2304) := Fin.ext (by show 128 * m.val + 1 * t.val = _; simp)
  have e1 : (codesPiece I m).1.emb (ix2 t c) 1 = c := Fin.ext (by show 0 + 1 * c.val = _; simp)
  unfold codesAt
  rw [e0, e1]
  exact H.codes hw hb m t c

theorem scalePiece_apply (H : Holds I X W lw lb P) (hw : ∀ h, Bd (2 ^ 64) (lw h)) (hb : ∀ h, Bd (2 ^ 64) (lb h)) (m : Fin 18) (x : S1x4x128.Idx) :
    (scalePiece I m).2 x
      = bytesAt X W lw lb P ((scalePiece I m).1.emb x) := by
  obtain ⟨z, g, t, rfl⟩ : ∃ (z : Fin 1) (g : Fin 4) (t : Fin 128), x = ix3 z g t :=
    ⟨x 0, x 1, x 2, funext fun k => by match k with | 0 => rfl | 1 => rfl | 2 => rfl⟩
  obtain rfl : z = 0 := Subsingleton.elim _ _
  have e0 : (scalePiece I m).1.emb (ix3 0 g t) 0 = (⟨m / 3, by omega⟩ : Fin 6) := Fin.ext (by show m.val / 3 + 1 * 0 = _; simp)
  have e1 : (scalePiece I m).1.emb (ix3 0 g t) 1 = g := Fin.ext (by show 0 + 1 * g.val = _; simp)
  have e2 : (scalePiece I m).1.emb (ix3 0 g t) 2 = (⟨128 * (m % 3) + t, by omega⟩ : Fin 384) :=
    Fin.ext (by show 128 * (m.val % 3) + 1 * t.val = _; simp)
  unfold bytesAt
  rw [e0, e1, e2]
  unfold bytesArr
  have e : (⟨384 * (m.val / 3) + (128 * (m.val % 3) + t.val), by omega⟩ : Fin 2304) = ⟨128 * m + t, by omega⟩ := Fin.ext (by dsimp only; omega)
  dsimp only
  rw [e]
  exact H.scale hw hb m g t

theorem codes_cover (y : S2304x128.Idx) : ∃ p ∈ codesPieces I 18 (le_refl _), y ∈ p.1.set := by
  have h0 : (y 0).val < 2304 := (y 0).isLt
  have h1 : (y 1).val < 128 := (y 1).isLt
  refine ⟨codesPiece I ⟨(y 0).val / 128, by omega⟩, (mem_codesPieces _ _ _).2 ⟨_, by show (y 0).val / 128 < 18; omega, rfl⟩, ?_⟩
  refine (Rect.mem_set_unit (inb := inb_codes ((y 0).val / 128) (by omega))).2 fun a => ?_
  match a with
  | 0 => show 128 * ((y 0).val / 128) ≤ (y 0).val ∧ (y 0).val < 128 * ((y 0).val / 128) + 128; omega
  | 1 => exact ⟨Nat.zero_le _, by show (y 1).val < 0 + 128; omega⟩

theorem scale_cover (y : S6x4x384.Idx) : ∃ p ∈ scalePieces I 18 (le_refl _), y ∈ p.1.set := by
  have h0 : (y 0).val < 6 := (y 0).isLt
  have h1 : (y 1).val < 4 := (y 1).isLt
  have h2 : (y 2).val < 384 := (y 2).isLt
  refine ⟨scalePiece I ⟨3 * (y 0).val + (y 2).val / 128, by omega⟩,
    (mem_scalePieces _ _ _).2 ⟨_, by show 3 * (y 0).val + (y 2).val / 128 < 18; omega, rfl⟩, ?_⟩
  refine (Rect.mem_set_unit (inb := inb_scale (3 * (y 0).val + (y 2).val / 128) (by omega))).2 fun a => ?_
  match a with
  | 0 => show (3 * (y 0).val + (y 2).val / 128) / 3 ≤ (y 0).val ∧ (y 0).val < (3 * (y 0).val + (y 2).val / 128) / 3 + 1; omega
  | 1 => exact ⟨Nat.zero_le _, by show (y 1).val < 0 + 4; omega⟩
  | 2 =>
    show 128 * ((3 * (y 0).val + (y 2).val / 128) % 3) ≤ (y 2).val ∧ (y 2).val < 128 * ((3 * (y 0).val + (y 2).val / 128) % 3) + 128
    omega

theorem codes_canon (H : Holds I X W lw lb P) (hw : ∀ h, Bd (2 ^ 64) (lw h)) (hb : ∀ h, Bd (2 ^ 64) (lb h)) (y : S2304x128.Idx) :
    View.canon (codesPieces I 18 (le_refl _)) y = codesAt X W lw lb P y := by
  generalize hL : codesPieces I 18 (le_refl _) = L
  have hp : ∀ p ∈ L, ∀ x : p.1.shape.Idx, p.2 x = codesAt X W lw lb P (p.1.emb x) := by
    intro p hp x
    rw [← hL] at hp
    obtain ⟨m, -, rfl⟩ := (mem_codesPieces p 18 (le_refl _)).1 hp
    exact codesPiece_apply H hw hb m x
  have hc : ∃ p ∈ L, y ∈ p.1.set := hL ▸ codes_cover y
  exact View.canon_apply_of_pieces (Val := Elt Ideal) (e := .fp8e4m3) (codesAt X W lw lb P) L hp y hc

theorem scale_canon (H : Holds I X W lw lb P) (hw : ∀ h, Bd (2 ^ 64) (lw h)) (hb : ∀ h, Bd (2 ^ 64) (lb h)) (y : S6x4x384.Idx) :
    View.canon (scalePieces I 18 (le_refl _)) y = bytesAt X W lw lb P y := by
  generalize hL : scalePieces I 18 (le_refl _) = L
  have hp : ∀ p ∈ L, ∀ x : p.1.shape.Idx, p.2 x = bytesAt X W lw lb P (p.1.emb x) := by
    intro p hp x
    rw [← hL] at hp
    obtain ⟨m, -, rfl⟩ := (mem_scalePieces p 18 (le_refl _)).1 hp
    exact scalePiece_apply H hw hb m x
  have hc : ∃ p ∈ L, y ∈ p.1.set := hL ▸ scale_cover y
  exact View.canon_apply_of_pieces (Val := Elt Ideal) (e := .i8) (bytesAt X W lw lb P) L hp y hc

end Pieces

variable (c : Dev nD) (f0 : Bf (F := Ideal) c hb0) (f1 : Bf (F := Ideal) c hb1) (f2 : Bf (F := Ideal) c hb2) (f3 : Bf (F := Ideal) c hb3) (f4 : Bf (F := Ideal) c hb4) (f5 : Bf (F := Ideal) c hb5)
  (g0 : Bf (F := Ideal) c ob0) (g1 : Bf (F := Ideal) c ob1)
  (s0 : Bf (F := Ideal) c sc0) (s1 : Bf (F := Ideal) c sc1) (s2 : Bf (F := Ideal) c sc2) (s3 : Bf (F := Ideal) c sc3) (s4 : Bf (F := Ideal) c sc4) (s5 : Bf (F := Ideal) c sc5) (s6 : Bf (F := Ideal) c sc6)
  (s7 : Bf (F := Ideal) c sc7) (s8 : Bf (F := Ideal) c sc8) (s9 : Bf (F := Ideal) c sc9) (s10 : Bf (F := Ideal) c sc10) (s11 : Bf (F := Ideal) c sc11) (s12 : Bf (F := Ideal) c sc12)

/-- The first result is what the stores of the codes leave, -/
theorem run_codes :
    (kernelRun c f0 f1 f2 f3 f4 f5 g0 g1 s0 s1 s2 s3 s4 s5 s6 s7 s8 s9 s10 s11 s12).1.1
      = View.write (Elt Ideal) ob0.view g0 (View.read (Elt Ideal) sc3.view (sc3.view.writes (Elt Ideal) s3 (S3_18 c f0 f1 f2 f3 f4 f5 s1 s5 s6 s11 s12))) Finset.univ := by
  sl_kernel_rfl

/-- the second what those of the exponent bytes do. -/
theorem run_scale :
    (kernelRun c f0 f1 f2 f3 f4 f5 g0 g1 s0 s1 s2 s3 s4 s5 s6 s7 s8 s9 s10 s11 s12).1.2
      = View.write (Elt Ideal) ob1.view g1 (View.read (Elt Ideal) sc4.view (sc4.view.writes (Elt Ideal) s4 (S4_18 c f0 f1 f2 f3 f4 f5 s1 s5 s6 s11 s12))) Finset.univ := by
  sl_kernel_rfl

variable (P : Fin 2304 → BitVec 32) (hP : ∀ (b : Fin 6) (t : Fin 384), pA c f5 (ix2 b 0) + BitVec.ofNat 32 t.val = P ⟨384 * b + t, by omega⟩)
  (hw : ∀ h, Bd (2 ^ 64) (lwA c f3 (ix2 0 h))) (hb : ∀ h, Bd (2 ^ 64) (lbA c f4 (ix2 0 h)))

include hP hw hb

theorem run_codes_apply (y : S2304x128.Idx) :
    View.read (Elt Ideal) ob0.view (kernelRun c f0 f1 f2 f3 f4 f5 g0 g1 s0 s1 s2 s3 s4 s5 s6 s7 s8 s9 s10 s11 s12).1.1 y
      = codesAt (fun t d => xA c f0 (ix2 t d)) (fun h d => wA c f1 (ix2 h d) * sA c f2 (ix1 ⟨d / 128, by omega⟩)) (fun h => lwA c f3 (ix2 0 h)) (fun h => lbA c f4 (ix2 0 h)) P
          y := by
  rw [run_codes, View.read_write_univ, codes_eq, View.read_writes_eq_canon _ _ _ codes_cover]
  exact codes_canon (holds_ins c f0 f1 f2 f3 f4 f5 s1 s5 s6 s11 s12 P hP) hw hb y

theorem run_scale_apply (y : S6x4x384.Idx) :
    View.read (Elt Ideal) ob1.view (kernelRun c f0 f1 f2 f3 f4 f5 g0 g1 s0 s1 s2 s3 s4 s5 s6 s7 s8 s9 s10 s11 s12).1.2 y
      = bytesAt (fun t d => xA c f0 (ix2 t d)) (fun h d => wA c f1 (ix2 h d) * sA c f2 (ix1 ⟨d / 128, by omega⟩)) (fun h => lwA c f3 (ix2 0 h)) (fun h => lbA c f4 (ix2 0 h)) P
          y := by
  rw [run_scale, View.read_write_univ, scale_eq, View.read_writes_eq_canon _ _ _ scale_cover]
  exact scale_canon (holds_ins c f0 f1 f2 f3 f4 f5 s1 s5 s6 s11 s12 P hP) hw hb y

end Cert.KernelIdeal.Hand

end
-- ==== Proof.Served.lean ====
/-
  What the precondition says of the arrays: positions count up within each sequence, and the norm's weight and bias are
  bounded.
-/
module

public import proofs.«01_k».proof.Pre_served
public import proofs.«01_k».proof.Proof.Bounds
public import Idealize.ShloMosaic.Lib.ReduceAll
public import Idealize.ShloMosaic.Lib.VecWindow

@[expose] public section

set_option maxRecDepth 16384

noncomputable section

namespace Cert.Pre_served

open Idealize.ShloMosaic Idealize.ShloMosaic.Pointwise Cert.Key

theorem facts : Facts where
  slices_S6x384_S6x1_0_0 := by decide
  bcast_S6x1_S6x384_0_1 := by decide
  reducesTo_S6x384_S_d0_1 := by decide
  h_S_ := by decide
  bcast_S_S128 := by decide
  reducesTo_S128_S_d0 := by decide

attribute [local instance] facts

theorem both : ∀ a b : BitVec 1, IntOp.andi a b = 1#1 → a = 1#1 ∧ b = 1#1 := by decide

theorem bound_eq : fb 0x5F800000#32 = (((2 : ℝ) ^ 64 : ℝ) : EReal) := by
  rw [fb_normal _ false 191 0 (by decide) (by decide) (by decide) (by decide)]
  norm_num

/-- A magnitude of at most 2^64 is of a real number. -/
theorem bd_of_abs {x : EReal} (h : max x (-x) ≤ (((2 : ℝ) ^ 64 : ℝ) : EReal)) : Bd (2 ^ 64) x := by
  obtain ⟨h1, h2⟩ := max_le_iff.1 h
  induction x with
  | bot => exact absurd h2 (by rw [EReal.neg_bot]; exact not_le.2 (EReal.coe_lt_top _))
  | top => exact absurd h1 (not_le.2 (EReal.coe_lt_top _))
  | coe r =>
    refine ⟨r, rfl, abs_le.2 ⟨?_, EReal.coe_le_coe_iff.1 h1⟩⟩
    have : -r ≤ 2 ^ 64 := EReal.coe_le_coe_iff.1 (by rw [EReal.coe_neg]; exact h2)
    linarith

theorem bounded (v : FVec Ideal S128 .f32)
    (e : Host.reduce IntOp.andi (cmpf .ole (Host.absf v) (broadcastInDim S128 ![] Facts.bcast_S_S128 (constant S_ .f32 0x5F800000#32))) (constantI S_ 1 1#1)
      Facts.reducesTo_S128_S_d0 Facts.h_S_ ix0 = 1#1) (h : Fin 128) : Bd (2 ^ 64) (v (ix1 h)) := by
  have e := Host.reduce_andi_all _ _ _ _ _ e (ix1 h)
  have e' : BitVec.ofBool (decide (max (v (ix1 h)) (-v (ix1 h)) ≤ fb 0x5F800000#32)) = 1#1 := e
  rw [bound_eq] at e'
  refine bd_of_abs (of_decide_eq_true (p := max (v (ix1 h)) (-v (ix1 h)) ≤ (((2 : ℝ) ^ 64 : ℝ) : EReal)) ?_)
  revert e'
  generalize decide (max (v (ix1 h)) (-v (ix1 h)) ≤ (((2 : ℝ) ^ 64 : ℝ) : EReal)) = d
  revert d
  decide

variable (x : FVec Ideal S6x384x2048 .bf16) (w : FVec Ideal S128x2048 .fp8e4m3) (s : FVec Ideal S16 .f32) (lw lb : FVec Ideal S128 .f32) (pos : IVec S6x384 32)

theorem served_facts (h : fn x w s lw lb pos = fun _ => 1#1) :
    (∀ (b : Fin 6) (t : Fin 384), pos (ix2 b 0) + BitVec.ofNat 32 t.val = pos (ix2 b t)) ∧ (∀ h, Bd (2 ^ 64) (lw (ix1 h))) ∧ (∀ h, Bd (2 ^ 64) (lb (ix1 h))) := by
  have h := congrFun h ix0
  unfold fn at h
  obtain ⟨h, h3⟩ := both _ _ h
  obtain ⟨h1, h2⟩ := both _ _ h
  refine ⟨fun b t => ?_, bounded lw h2, bounded lb h3⟩
  have e := IntOp.cmpi_eq.1 (Host.reduce_andi_all _ _ _ _ _ h1 (ix2 b t))
  rw [e]
  pointwise
  rfl

end Cert.Pre_served

end
-- ==== Proof.RefValue.lean ====
/-
  The reference's two results as the problem's mathematics: at each token the codes and the exponent bytes of `Cert.Key`.
-/
module

public import proofs.«01_k».proof.Proof.KernelOut
public import proofs.«01_k».proof.Proof.Gen.ReferenceIdeal.Frame
public import Idealize.ShloMosaic.Lib.VecWindow
public import Idealize.ShloMosaic.Lib.Pipeline.ValueKit.Basic

@[expose] public section

noncomputable section

namespace Cert.ReferenceIdeal.Hand

open Cert.ReferenceIdeal Cert.ReferenceIdeal.Gen Cert.Key Idealize.ShloMosaic Idealize.SL.Sem
open Cert.KernelIdeal.Hand (cst sinV cosV sinV_apply cosV_apply)
open Idealize.ShloMosaic.Pointwise
open scoped BigOperators

/-! ## The key -/

/-- The layer norm of the projection. -/
theorem norm_apply (w : Vec Ideal S128x2048 .fp8e4m3) (s : Vec Ideal S1x2048 .f32) (x : Vec Ideal S2304x2048 .bf16) (a b : Vec Ideal S1x128 .f32)
    (t : Fin 2304) (h : Fin 128) :
    k0_pay2 w s x a b (ix2 t h) = normS (fun h => ∑ d : Fin 2048, (w (ix2 h d) * s (ix2 0 d)) * x (ix2 t d))
      (fun h => a (ix2 0 h)) (fun h => b (ix2 0 h)) h := by
  have hk : ∀ h : Fin 128, (∑ d : Fin 2048, (w (ix2 h d) * s (ix2 0 d) : EReal) * x (ix2 t d))
      = ∑ d : Fin 2048, (x (ix2 t d) : EReal) * (w (ix2 h d) * s (ix2 0 d)) := fun h => Finset.sum_congr rfl fun d _ => mul_comm _ _
  simp only [hk]
  pointwise [k0_pay2]
  rfl

/-- The frequencies. -/
theorem freq_apply (g : Fin 32) : k0_pay3 (F := Ideal) (ix2 0 g) = freqS g := by
  pointwise [k0_pay3]
  rfl

theorem angle_apply (f : FVec Ideal S1x32 .f32) (p : Vec Ideal S2304x1 .i32) (t : Fin 2304) (g : Fin 32) (hf : f (ix2 0 g) = freqS g) :
    k0_pay4 f p (ix2 t g) = angleS (p (ix2 t 0)) g := by
  pointwise [k0_pay4]
  rw [hf]
  rfl

/-- The rotation, from the sines and cosines. -/
def rotate {F : FTy → Type} [FloatOps F] (n : FVec F S2304x128 .f32) (s c : FVec F S2304x32 .f32) : FVec F S2304x128 .f32 :=
  have lo : FVec F S2304x32 .f32 := extractStridedSlice S2304x32 ![0, 0] n slices_S2304x128_o0_0_S2304x32
  have hi : FVec F S2304x32 .f32 := extractStridedSlice S2304x32 ![0, 32] n slices_S2304x128_o0_32_S2304x32
  concatenate S2304x128 1 [⟨S2304x32, subf (mulf lo c) (mulf hi s)⟩, ⟨S2304x32, addf (mulf hi c) (mulf lo s)⟩,
    ⟨S2304x64, extractStridedSlice S2304x64 ![0, 64] n slices_S2304x128_o0_64_S2304x64⟩] concatenates_S2304x32_S2304x32_S2304x64_S2304x128_d1

theorem rotate_eq (n : FVec Ideal S2304x128 .f32) (f : FVec Ideal S1x32 .f32) (p : Vec Ideal S2304x1 .i32) :
    k0_pay12 n (k0_pay8 f p) (k0_pay9 f p) (k0_pay10 f p) (k0_pay11 f p) = rotate n (sinV (k0_pay4 f p)) (cosV (k0_pay4 f p)) := rfl

theorem rotate_apply (n : FVec Ideal S2304x128 .f32) (a : FVec Ideal S2304x32 .f32) (t : Fin 2304) (h : Fin 128) :
    rotate n (sinV a) (cosV a) (ix2 t h) = rotS (fun x => n (ix2 t x)) (fun g => a (ix2 t g)) h := by
  pointwise [rotate]
  simp only [sinV_apply, cosV_apply]
  rfl

/-- The parity of the sum of seven bits, as the reference shifts them out. -/
theorem sum_parity : ∀ n : Fin 128,
    (let b : BitVec 32 := BitVec.ofNat 32 n.val
     let bit := fun k : BitVec 32 => IntOp.andi (IntOp.shrsi .vector b k) 1#32
     IntOp.subi 1#32 (IntOp.muli 2#32 (IntOp.andi (IntOp.addi (IntOp.addi (IntOp.addi (IntOp.addi (IntOp.addi (IntOp.addi
       (IntOp.addi 0#32 (bit 0#32)) (bit 1#32)) (bit 2#32)) (bit 3#32)) (bit 4#32)) (bit 5#32)) (bit 6#32)) 1#32))) =
    (let b : BitVec 32 := BitVec.ofNat 32 n.val
     1#32 - 2#32 * (((((((((b >>> 0) &&& 1#32) + ((b >>> 1) &&& 1#32)) + ((b >>> 2) &&& 1#32)) + ((b >>> 3) &&& 1#32)) + ((b >>> 4) &&& 1#32))
      + ((b >>> 5) &&& 1#32)) + ((b >>> 6) &&& 1#32)) &&& 1#32)) := by decide +kernel

theorem common_bits (r c : Fin 128) : ∃ n : Fin 128, (BitVec.ofNat 32 r.val &&& BitVec.ofNat 32 c.val) = BitVec.ofNat 32 n.val :=
  ⟨⟨r.val &&& c.val, Nat.lt_of_le_of_lt Nat.and_le_left r.isLt⟩, (BitVec.ofNat_and ..).symm⟩

/-- The Hadamard product. -/
theorem had_apply (k : FVec Ideal S2304x128 .f32) (t : Fin 2304) (c : Fin 128) :
    k0_pay16 k k0_pay13 k0_pay14 k0_pay15 (ix2 t c) = hadS (fun h => k (ix2 t h)) c * fb 0x3DB504F3#32 := by
  pointwise [k0_pay16, k0_pay15, k0_pay14, k0_pay13]
  unfold hadS
  refine congrArg (fun s : EReal => s * fb 0x3DB504F3#32) (Finset.sum_congr rfl fun h _ => ?_)
  refine congrArg (fun s : EReal => k (ix2 t h) * s) ?_
  obtain ⟨n, e⟩ := common_bits h c
  unfold signS parityS
  dsimp only
  rw [show IntOp.andi (BitVec.ofNat 32 h.val) (BitVec.ofNat 32 c.val) = BitVec.ofNat 32 n.val from e, e]
  exact congrArg (fun b : BitVec 32 => ((b.toInt : ℝ) : EReal)) (sum_parity n)

/-! ## The quantiser -/

/-- The largest magnitude of each row over the largest code. -/
def top {F : FTy → Type} [FloatOps F] (y : FVec F S2304x32 .f32) : FVec F S2304x1 .f32 :=
  mulf (shapeCast S2304x1 (multiReduction .maximumf [1] S2304 (absf y) 0xFF800000#32 reduces_S2304x32_S2304 (.inl rfl) rfl)
    shapeCasts_S2304_S2304x1) (cst S2304x1 0x3B124925#32)

/-- The powers of two. -/
def powers {F : FTy → Type} [FloatOps F] : FVec F S1x256 .f32 :=
  exp2 (sitofp .f32 (subi (iota .tc S1x256 32 [1] iota_S1x256_d1_w32) (broadcast S1x256 126#32)))

/-- How many powers are at most each number. -/
def counts {F : FTy → Type} [FloatOps F] (a : FVec F S2304x1 .f32) : FVec F S2304x1 .f32 :=
  shapeCast S2304x1 (multiReduction .add [1] S2304 (sitofp .f32 (extui 32 (cmpf .oge (broadcastTo S2304x256 a broadcasts_S2304x1_S2304x256)
    (broadcastTo S2304x256 powers broadcasts_S1x256_S2304x256)) natLt_1_32)) 0x00000000#32 reduces_S2304x256_S2304 (.inl rfl) rfl)
    shapeCasts_S2304_S2304x1

/-- The exponents from the counts. -/
def expos {F : FTy → Type} [FloatOps F] (n : FVec F S2304x1 .f32) : FVec F S2304x1 .f32 :=
  select (cmpf .oeq n (cst S2304x1 0x00000000#32)) (cst S2304x1 0x00000000#32) (subf n (cst S2304x1 0x42FC0000#32))

/-- The codes of a group at exponents `e`. -/
def codes {F : FTy → Type} [FloatOps F] (y : FVec F S2304x32 .f32) (e : FVec F S2304x1 .f32) : FVec F S2304x32 .f32 :=
  minimumf (cst S2304x32 0x43E00000#32) (maximumf (cst S2304x32 0xC3E00000#32)
    (mulf y (broadcastTo S2304x32 (exp2 (subf (cst S2304x1 0x00000000#32) e)) broadcasts_S2304x1_S2304x32)))

/-- The exponent bytes, as words. -/
def bytes {F : FTy → Type} [FloatOps F] (e : FVec F S2304x1 .f32) : IVec S2304x1 32 := fptosi 32 (addf e (cst S2304x1 0x42FE0000#32))

theorem top_apply (y : FVec Ideal S2304x32 .f32) (t : Fin 2304) :
    top y (ix2 t 0) = amaxS (fun x => y (ix2 t x)) * fb 0x3B124925#32 := by
  pointwise [top]
  rfl

theorem counts_apply (a : FVec Ideal S2304x1 .f32) (t : Fin 2304) : counts a (ix2 t 0) = count (a (ix2 t 0)) := by
  pointwise [counts, powers]
  rfl

theorem expos_apply (a : FVec Ideal S2304x1 .f32) (t : Fin 2304) : expos (counts a) (ix2 t 0) = expo (a (ix2 t 0)) := by
  show Scalar.select (Ideal.cmp .oeq (counts a (ix2 t 0)) (fb 0x00000000#32)) (fb 0x00000000#32) (counts a (ix2 t 0) - fb 0x42FC0000#32) = _
  rw [counts_apply]
  rfl

theorem codes_apply (y : FVec Ideal S2304x32 .f32) (t : Fin 2304) (h : Fin 32) :
    codes y (expos (counts (top y))) (ix2 t h) = code (y (ix2 t h)) (amaxS (fun x => y (ix2 t x)) * fb 0x3B124925#32) := by
  pointwise [codes]
  rw [expos_apply, top_apply]
  unfold code
  rw [fb_zero]
  rfl

theorem bytes_apply (y : FVec Ideal S2304x32 .f32) (t : Fin 2304) :
    (bytes (expos (counts (top y))) (ix2 t 0)).setWidth 8 = byte (amaxS (fun x => y (ix2 t x)) * fb 0x3B124925#32) := by
  show (Ideal.fptosi 32 (expos (counts (top y)) (ix2 t 0) + fb 0x42FE0000#32)).setWidth 8 = _
  rw [expos_apply, top_apply]
  rfl

/-- Group `g` of the channels. -/
def grp (y : FVec Ideal S2304x128 .f32) (g : Fin 4) : FVec Ideal S2304x32 .f32 :=
  match g with | 0 => extractStridedSlice S2304x32 ![0, 0] y slices_S2304x128_o0_0_S2304x32 | 1 => k0_pay23 y | 2 => k0_pay29 y | 3 => k0_pay33 y

theorem grp_apply (y : FVec Ideal S2304x128 .f32) (g : Fin 4) (h : Fin 32) (t : Fin 2304) :
    grp y g (ix2 t h) = y (ix2 t ⟨32 * g + h, by omega⟩) := by
  match g with
  | 0 => show extractStridedSlice S2304x32 ![0, 0] y slices_S2304x128_o0_0_S2304x32 _ = _; pointwise
  | 1 => show k0_pay23 y _ = _; pointwise [k0_pay23]
  | 2 => show k0_pay29 y _ = _; pointwise [k0_pay29]
  | 3 => show k0_pay33 y _ = _; pointwise [k0_pay33]

/-- The codes and the bytes of group `g`. -/
def codesG (y : FVec Ideal S2304x128 .f32) (g : Fin 4) : FVec Ideal S2304x32 .f32 := codes (grp y g) (expos (counts (top (grp y g))))
def bytesG (y : FVec Ideal S2304x128 .f32) (g : Fin 4) : IVec S2304x1 32 := bytes (expos (counts (top (grp y g))))

/-- All the codes. -/
def allCodes (y : FVec Ideal S2304x128 .f32) : FVec Ideal S2304x128 .fp8e4m3 :=
  truncf .fp8e4m3 (concatenate S2304x128 1 [⟨S2304x32, codesG y 0⟩, ⟨S2304x32, codesG y 1⟩, ⟨S2304x32, codesG y 2⟩, ⟨S2304x32, codesG y 3⟩]
    concatenates_S2304x32_S2304x32_S2304x32_S2304x32_S2304x128_d1) bitsLt_fp8e4m3_f32

theorem codesG_apply (y : FVec Ideal S2304x128 .f32) (g : Fin 4) (t : Fin 2304) (h : Fin 32) :
    codesG y g (ix2 t h) = code (y (ix2 t ⟨32 * g + h, by omega⟩)) (amaxS (fun x => y (ix2 t ⟨32 * g + x, by omega⟩)) * fb 0x3B124925#32) := by
  unfold codesG
  rw [codes_apply]
  simp only [grp_apply]

theorem allCodes_apply (y : FVec Ideal S2304x128 .f32) (t : Fin 2304) (h : Fin 128) :
    allCodes y (ix2 t h) = code (y (ix2 t h)) (amaxS (fun x => y (ix2 t ⟨32 * (h / 32) + x, by omega⟩)) * fb 0x3B124925#32) := by
  have e : allCodes y (ix2 t h) = codesG y ⟨h / 32, by omega⟩ (ix2 t ⟨h % 32, by omega⟩) := by
    pointwise [allCodes]
    have hh := h.isLt
    split
    · have e : (⟨h.val / 32, by omega⟩ : Fin 4) = 0 := Fin.ext (by show h.val / 32 = 0; omega)
      rw [e]; congr 2; exact Fin.ext (by show h.val = h.val % 32; omega)
    · split
      · have e : (⟨h.val / 32, by omega⟩ : Fin 4) = 1 := Fin.ext (by show h.val / 32 = 1; omega)
        rw [e]; congr 2; exact Fin.ext (by show h.val - 32 = h.val % 32; omega)
      · split
        · have e : (⟨h.val / 32, by omega⟩ : Fin 4) = 2 := Fin.ext (by show h.val / 32 = 2; omega)
          rw [e]; congr 2; exact Fin.ext (by show h.val - 32 - 32 = h.val % 32; omega)
        · have e : (⟨h.val / 32, by omega⟩ : Fin 4) = 3 := Fin.ext (by show h.val / 32 = 3; omega)
          rw [e]; congr 2; exact Fin.ext (by show h.val - 32 - 32 - 32 = h.val % 32; omega)
  rw [e, codesG_apply]
  congr 3
  exact Fin.ext (by show 32 * (h.val / 32) + h.val % 32 = h.val; omega)

/-- All the bytes. -/
theorem joined_apply (y : FVec Ideal S2304x128 .f32) (t : Fin 2304) (g : Fin 4) :
    k0_pay1 (bytesG y 0) (bytesG y 1) (bytesG y 2) (bytesG y 3) (ix2 t g) = (bytesG y g (ix2 t 0)).setWidth 8 := by
  match g with
  | 0 => pointwise [k0_pay1]
  | 1 => pointwise [k0_pay1]
  | 2 => pointwise [k0_pay1]
  | 3 => pointwise [k0_pay1]

/-! ## The results -/

section Out

variable (x0 : Vec Ideal S2304x2048 .bf16) (x1 : Vec Ideal S128x2048 .fp8e4m3) (x2 : Vec Ideal S1x2048 .f32) (x3 x4 : Vec Ideal S1x128 .f32)
  (x5 : Vec Ideal S2304x1 .i32)

/-- The projection of token `t`. -/
def proj (t : Fin 2304) (h : Fin 128) : EReal := ∑ d : Fin 2048, (x1 (ix2 h d) * x2 (ix2 0 d)) * x0 (ix2 t d)

theorem ld_all : View.ld x0 r0_2 = x0 ∧ View.ld x1 r0_0 = x1 ∧ View.ld x2 r0_1 = x2 ∧ View.ld x3 r0_3 = x3 ∧ View.ld x5 r0_4 = x5 :=
  ⟨View.ld_unit_lit (S := S2304x2048) _ x0 (by decide), View.ld_unit_lit (S := S128x2048) _ x1 (by decide),
    View.ld_unit_lit (S := S1x2048) _ x2 (by decide), View.ld_unit_lit (S := S1x128) _ x3 (by decide),
    View.ld_unit_lit (S := S2304x1) _ x5 (by decide)⟩

theorem y_apply (t : Fin 2304) (c : Fin 128) :
    k0_pay42 x0 x1 x2 x3 x4 x5 (ix2 t c)
      = yOut (proj x0 x1 x2 t) (fun h => x3 (ix2 0 h)) (fun h => x4 (ix2 0 h)) (x5 (ix2 t 0)) c := by
  unfold k0_pay42 k0_pay39 k0_pay40 k0_pay41
  rw [had_apply]
  unfold yOut
  congr 2
  funext h
  unfold k0_pay38 k0_pay37
  rw [rotate_eq, rotate_apply]
  obtain ⟨e0, e1, e2, e3, e5⟩ := ld_all x0 x1 x2 x3 x5
  obtain ⟨_, _, _, e4, _⟩ := ld_all x0 x1 x2 x4 x5
  rw [e0, e1, e2, e3, e4, e5]
  unfold keyS
  congr 1
  · funext h; exact norm_apply _ _ _ _ _ _ _
  · funext g; exact angle_apply _ _ _ _ (freq_apply g)

theorem codes_read (t : Fin 2304) (c : Fin 128) :
    out0_6 x0 x1 x2 x3 x4 x5 (ix2 t c)
      = codeOut (proj x0 x1 x2 t) (fun h => x3 (ix2 0 h)) (fun h => x4 (ix2 0 h)) (x5 (ix2 t 0)) c := by
  have e : out0_6 x0 x1 x2 x3 x4 x5 = View.canon [⟨r0_5, allCodes (k0_pay42 x0 x1 x2 x3 x4 x5)⟩] := rfl
  rw [e, View.canon_cons_unit_lit (S := S2304x128) (Val := Elt Ideal) (e := .fp8e4m3) _ _ _ (by decide), allCodes_apply]
  simp only [y_apply]
  rfl

theorem bytes_read (t : Fin 2304) (g : Fin 4) :
    out0_7 x0 x1 x2 x3 x4 x5 (ix2 t g)
      = byteOut (proj x0 x1 x2 t) (fun h => x3 (ix2 0 h)) (fun h => x4 (ix2 0 h)) (x5 (ix2 t 0)) g := by
  have e : out0_7 x0 x1 x2 x3 x4 x5 = View.canon [⟨r0_6, k0_pay1 (bytesG (k0_pay42 x0 x1 x2 x3 x4 x5) 0) (bytesG (k0_pay42 x0 x1 x2 x3 x4 x5) 1)
    (bytesG (k0_pay42 x0 x1 x2 x3 x4 x5) 2) (bytesG (k0_pay42 x0 x1 x2 x3 x4 x5) 3)⟩] := rfl
  rw [e, View.canon_cons_unit_lit (S := S2304x4) (Val := Elt Ideal) (e := .i8) _ _ _ (by decide), joined_apply]
  unfold bytesG
  rw [bytes_apply]
  simp only [grp_apply, y_apply]
  rfl

end Out

end Cert.ReferenceIdeal.Hand

end
-- ==== Proof.Algebraic.lean ====
/-
  The kernel and the reference end with the same codes and exponent bytes.
-/
module

public import proofs.«01_k».proof.Defs
public import proofs.«01_k».proof.Proof.KernelArrays
public import proofs.«01_k».proof.Proof.Served
public import proofs.«01_k».proof.Proof.FrameIdeal
public import proofs.«01_k».proof.Proof.RefValue
public import proofs.«01_k».proof.Proof.Gen.ReferenceIdeal.Frame
public import Idealize.ShloMosaic.Lib.Claim
public import Idealize.ShloMosaic.Lib.Pipeline.ValueKit.Geometry

@[expose] public section

set_option maxRecDepth 16384
set_option maxHeartbeats 400000

noncomputable section

namespace Cert.Key

open Idealize.ShloMosaic Idealize.ShloMosaic.Pointwise

abbrev Arr0 := FVec Ideal ⟨3, ![6, 384, 2048]⟩ .bf16
abbrev Arr1 := FVec Ideal ⟨2, ![128, 2048]⟩ .fp8e4m3
abbrev Arr2 := FVec Ideal ⟨1, ![16]⟩ .f32
abbrev Arr3 := FVec Ideal ⟨1, ![128]⟩ .f32
abbrev Arr5 := IVec ⟨2, ![6, 384]⟩ 32

/-- The tokens of all sequences in order, the dequantised weights, the norm's weight or bias, every token's position. -/
def tokens (x : Arr0) (t : Fin 2304) (d : Fin 2048) : EReal := x (ix3 ⟨t / 384, by omega⟩ ⟨t % 384, by omega⟩ d)
def weights (w : Arr1) (s : Arr2) (h : Fin 128) (d : Fin 2048) : EReal := w (ix2 h d) * s (ix1 ⟨d / 128, by omega⟩)
def row (v : Arr3) (h : Fin 128) : EReal := v (ix1 h)
def place (p : Arr5) (t : Fin 2304) : BitVec 32 := p (ix2 ⟨t / 384, by omega⟩ ⟨t % 384, by omega⟩)

end Cert.Key

namespace Cert.KernelIdeal.Hand

open Cert.KernelIdeal Cert.KernelIdeal.Gen Cert.Key
open Idealize.ShloMosaic Idealize.ShloMosaic.TcCoe Idealize.SL.Sem
open Idealize.ShloMosaic.Pointwise

variable (m : (ℓ : Loc nD τ sig) → Buf (Elt Ideal) ℓ) (c : Dev nD)

/-- The arrays of the launch. -/
abbrev a0 : Arr0 := m ((c : Thread nD τ).loc main_arg0)
abbrev a1 : Arr1 := m ((c : Thread nD τ).loc main_arg1)
abbrev a2 : Arr2 := m ((c : Thread nD τ).loc main_arg2)
abbrev a3 : Arr3 := m ((c : Thread nD τ).loc main_arg3)
abbrev a4 : Arr3 := m ((c : Thread nD τ).loc main_arg4)
abbrev a5 : Arr5 := m ((c : Thread nD τ).loc main_arg5)

theorem V_eq (b : Ref sig .tc) : V m c b = StableHlo.after hostOps0 (fun b => m (c, b)) (Proc.devRef .tc b) := rfl

theorem host_x (t : Fin 2304) (d : Fin 2048) : xA c (V m c main_v0) (ix2 t d) = tokens (a0 m c) t d := by
  show V m c main_v0 (ix2 t d) = _
  rw [V_eq]
  entry_read
  pointwise
  rfl

theorem host_lw (h : Fin 128) : lwA c (V m c main_v1) (ix2 0 h) = row (a3 m c) h := by
  show V m c main_v1 (ix2 0 h) = _
  rw [V_eq]
  entry_read
  pointwise
  rfl

theorem host_lb (h : Fin 128) : lbA c (V m c main_v2) (ix2 0 h) = row (a4 m c) h := by
  show V m c main_v2 (ix2 0 h) = _
  rw [V_eq]
  entry_read
  pointwise
  rfl

theorem host_w (h : Fin 128) (d : Fin 2048) : wA c (V m c main_arg1) (ix2 h d) * sA c (V m c main_arg2) (ix1 ⟨d / 128, by omega⟩) = weights (a1 m c) (a2 m c) h d := by
  have e1 : wA c (V m c main_arg1) = a1 m c := V_main_arg1 m c
  have e2 : sA c (V m c main_arg2) = a2 m c := V_main_arg2 m c
  rw [e1, e2]
  rfl

theorem host_p : pA c (V m c main_arg5) = a5 m c := V_main_arg5 m c

end Cert.KernelIdeal.Hand

namespace Cert.ReferenceIdeal.Hand

open Cert.ReferenceIdeal Cert.ReferenceIdeal.Gen Cert.Key
open Idealize.ShloMosaic Idealize.ShloMosaic.TcCoe Idealize.SL.Sem
open Idealize.ShloMosaic.Pointwise

variable (m : (ℓ : Loc nD τ sig) → Buf (Elt Ideal) ℓ) (c : Dev nD)

/-- The arrays of the launch. -/
abbrev a0 : Arr0 := m ((c : Thread nD τ).loc main_arg0)
abbrev a1 : Arr1 := m ((c : Thread nD τ).loc main_arg1)
abbrev a2 : Arr2 := m ((c : Thread nD τ).loc main_arg2)
abbrev a3 : Arr3 := m ((c : Thread nD τ).loc main_arg3)
abbrev a4 : Arr3 := m ((c : Thread nD τ).loc main_arg4)
abbrev a5 : Arr5 := m ((c : Thread nD τ).loc main_arg5)

theorem V_eq (b : Ref sig .tc) : V m c b = StableHlo.after hostOps0 (fun b => m (c, b)) (Proc.devRef .tc b) := rfl

theorem host_x (t : Fin 2304) (d : Fin 2048) : (V m c main_v0 : Vec Ideal S2304x2048 .bf16) (ix2 t d) = tokens (a0 m c) t d := by
  rw [V_eq]
  entry_read
  pointwise
  rfl

theorem host_lw (h : Fin 128) : (V m c main_v4 : Vec Ideal S1x128 .f32) (ix2 0 h) = row (a3 m c) h := by
  rw [V_eq]
  entry_read
  pointwise
  rfl

theorem host_lb (h : Fin 128) : (V m c main_v5 : Vec Ideal S1x128 .f32) (ix2 0 h) = row (a4 m c) h := by
  rw [V_eq]
  entry_read
  pointwise
  rfl

theorem host_p (t : Fin 2304) : (V m c main_v6 : Vec Ideal S2304x1 .i32) (ix2 t 0) = place (a5 m c) t := by
  rw [V_eq]
  entry_read
  pointwise
  rfl

theorem host_s (d : Fin 2048) : (V m c main_v3 : Vec Ideal S1x2048 .f32) (ix2 0 d) = a2 m c (ix1 ⟨d / 128, by omega⟩) := by
  rw [V_eq]
  entry_read
  pointwise

/-- The weight and its scales, as the call takes them. -/
abbrev vW : Vec Ideal S128x2048 .fp8e4m3 := V m c main_arg1
abbrev vS : Vec Ideal S1x2048 .f32 := V m c main_v3

theorem host_w (h : Fin 128) (d : Fin 2048) : vW m c (ix2 h d) * vS m c (ix2 0 d) = weights (a1 m c) (a2 m c) h d := by
  have e1 : vW m c = a1 m c := V_main_arg1 m c
  have e2 : vS m c (ix2 0 d) = a2 m c (ix1 ⟨d / 128, by omega⟩) := host_s m c d
  rw [e1, e2]
  rfl

/-- The one point of the reference's call. -/
def t₀ : Fin cfg0.N := ⟨0, Nat.one_pos⟩

theorem read0 (X : Vec Ideal S2304x2048 .bf16) : ((cfg0.win 0).blk t₀).view.read (Elt Ideal) X = X :=
  funext fun y => congrArg X (funext fun a => Fin.ext (Pipeline.Window.rect_emb_val_of_index_zero (cfg0.win 0) t₀ a rfl y))
theorem read1 (X : Vec Ideal S128x2048 .fp8e4m3) : ((cfg0.win 1).blk t₀).view.read (Elt Ideal) X = X :=
  funext fun y => congrArg X (funext fun a => Fin.ext (Pipeline.Window.rect_emb_val_of_index_zero (cfg0.win 1) t₀ a rfl y))
theorem read2 (X : Vec Ideal S1x2048 .f32) : ((cfg0.win 2).blk t₀).view.read (Elt Ideal) X = X :=
  funext fun y => congrArg X (funext fun a => Fin.ext (Pipeline.Window.rect_emb_val_of_index_zero (cfg0.win 2) t₀ a rfl y))
theorem read3 (X : Vec Ideal S1x128 .f32) : ((cfg0.win 3).blk t₀).view.read (Elt Ideal) X = X :=
  funext fun y => congrArg X (funext fun a => Fin.ext (Pipeline.Window.rect_emb_val_of_index_zero (cfg0.win 3) t₀ a rfl y))
theorem read4 (X : Vec Ideal S1x128 .f32) : ((cfg0.win 4).blk t₀).view.read (Elt Ideal) X = X :=
  funext fun y => congrArg X (funext fun a => Fin.ext (Pipeline.Window.rect_emb_val_of_index_zero (cfg0.win 4) t₀ a rfl y))
theorem read5 (X : Vec Ideal S2304x1 .i32) : ((cfg0.win 5).blk t₀).view.read (Elt Ideal) X = X :=
  funext fun y => congrArg X (funext fun a => Fin.ext (Pipeline.Window.rect_emb_val_of_index_zero (cfg0.win 5) t₀ a rfl y))

/-- The results, as the body leaves them from the arrays of the call. -/
theorem arr6 (y : S2304x128.Idx) :
    ((dats m 0 c).arrAt 6 cfg0.N : Vec Ideal S2304x128 .fp8e4m3) y = out0_6 (V m c main_v0) (V m c main_arg1) (V m c main_v3) (V m c main_v4) (V m c main_v5) (V m c main_v6) y := by
  refine ((dats m 0 c).arrAt_emb_eq_after_last 6 t₀ (by decide +kernel) y).trans ?_
  rw [after0_6]
  have e0 : iblk m c 0 t₀ = V m c main_v0 := read0 _
  have e1 : iblk m c 1 t₀ = V m c main_arg1 := read1 _
  have e2 : iblk m c 2 t₀ = V m c main_v3 := read2 _
  have e3 : iblk m c 3 t₀ = V m c main_v4 := read3 _
  have e4 : iblk m c 4 t₀ = V m c main_v5 := read4 _
  have e5 : iblk m c 5 t₀ = V m c main_v6 := read5 _
  rw [e0, e1, e2, e3, e4, e5]
  generalize out0_6 (F := Ideal) _ _ _ _ _ _ = Z
  rfl

theorem arr7 (y : S2304x4.Idx) :
    ((dats m 0 c).arrAt 7 cfg0.N : Vec Ideal S2304x4 .i8) y = out0_7 (V m c main_v0) (V m c main_arg1) (V m c main_v3) (V m c main_v4) (V m c main_v5) (V m c main_v6) y := by
  refine ((dats m 0 c).arrAt_emb_eq_after_last 7 t₀ (by decide +kernel) y).trans ?_
  rw [after0_7]
  have e0 : iblk m c 0 t₀ = V m c main_v0 := read0 _
  have e1 : iblk m c 1 t₀ = V m c main_arg1 := read1 _
  have e2 : iblk m c 2 t₀ = V m c main_v3 := read2 _
  have e3 : iblk m c 3 t₀ = V m c main_v4 := read3 _
  have e4 : iblk m c 4 t₀ = V m c main_v5 := read4 _
  have e5 : iblk m c 5 t₀ = V m c main_v6 := read5 _
  rw [e0, e1, e2, e3, e4, e5]
  generalize out0_7 (F := Ideal) _ _ _ _ _ _ = Z
  rfl

theorem proj_eq (t : Fin 2304) : proj (V m c main_v0) (V m c main_arg1) (V m c main_v3) t = projS (tokens (a0 m c)) (weights (a1 m c) (a2 m c)) t := by
  funext h
  unfold proj projS
  refine Finset.sum_congr rfl fun d _ => ?_
  exact congrArg₂ (· * ·) (host_w m c h d) (host_x m c t d)

/-- The reference's codes, -/
theorem ref_codes : ((dats m 0 c).arrAt 6 cfg0.N : Vec Ideal S2304x128 .fp8e4m3)
    = Cert.KernelIdeal.Hand.codesAt (tokens (a0 m c)) (weights (a1 m c) (a2 m c)) (row (a3 m c)) (row (a4 m c)) (place (a5 m c)) := by
  funext y
  obtain ⟨t, h, rfl⟩ : ∃ (t : Fin 2304) (h : Fin 128), y = ix2 t h := ⟨y 0, y 1, funext fun k => by match k with | 0 => rfl | 1 => rfl⟩
  rw [arr6, codes_read, proj_eq, host_p, funext (host_lw m c), funext (host_lb m c)]
  rfl

/-- its exponent bytes. -/
theorem ref_bytes (b : Fin 6) (g : Fin 4) (t : Fin 384) : ((dats m 0 c).arrAt 7 cfg0.N : Vec Ideal S2304x4 .i8) (ix2 ⟨384 * b + t, by omega⟩ g)
    = Cert.KernelIdeal.Hand.bytesAt (tokens (a0 m c)) (weights (a1 m c) (a2 m c)) (row (a3 m c)) (row (a4 m c)) (place (a5 m c)) (ix3 b g t) := by
  rw [arr7, bytes_read, proj_eq, host_p, funext (host_lw m c), funext (host_lb m c)]
  rfl

/-- The results in their final shapes, from the call's. -/
theorem after_v8 (σ : Valuation τ sig (Elt Ideal)) : StableHlo.after (List.flatten [hostOps1]) σ (Proc.devRef .tc main_v8)
    = shapeCast (α := EReal) S6x384x128 (σ (Proc.devRef .tc main_v7_0)) shapeCasts_S2304x128_S6x384x128 := by
  show StableHlo.after hostOps1 σ (Proc.devRef .tc main_v8) = _
  entry_read
  rfl
theorem after_v9 (σ : Valuation τ sig (Elt Ideal)) : StableHlo.after (List.flatten [hostOps1]) σ (Proc.devRef .tc main_v9)
    = shapeCast (α := BitVec 8) S6x384x4 (σ (Proc.devRef .tc main_v7_1)) shapeCasts_S2304x4_S6x384x4 := by
  show StableHlo.after hostOps1 σ (Proc.devRef .tc main_v9) = _
  entry_read
  rfl

end Cert.ReferenceIdeal.Hand

namespace Cert.KernelIdeal.Hand

open Cert.KernelIdeal Cert.KernelIdeal.Gen Cert.Key
open Idealize.ShloMosaic Idealize.ShloMosaic.TcCoe Idealize.SL.Sem
open Idealize.ShloMosaic.Pointwise

attribute [local instance] Cert.Pre_served.facts

variable (m : (ℓ : Loc nD τ sig) → Buf (Elt Ideal) ℓ) (ρ : Dev nD → PrngReg)

/-- The kernel's results: the launch's buffers with the codes and the exponent bytes in place. -/
def ends (c : Dev nD) : (b : Ref sig .tc) → Buf (Elt Ideal) ((c : Thread nD τ).loc b) :=
  Function.update (Function.update (V m c) main_v3_0 (codesAt (tokens (a0 m c)) (weights (a1 m c) (a2 m c)) (row (a3 m c)) (row (a4 m c)) (place (a5 m c))))
    main_v3_1 (bytesAt (tokens (a0 m c)) (weights (a1 m c) (a2 m c)) (row (a3 m c)) (row (a4 m c)) (place (a5 m c)))

theorem ends_codes (c : Dev nD) : ends m c main_v3_0 = codesAt (tokens (a0 m c)) (weights (a1 m c) (a2 m c)) (row (a3 m c)) (row (a4 m c)) (place (a5 m c)) := by
  unfold ends
  rw [Function.update_of_ne (by decide), Function.update_self]

theorem ends_bytes (c : Dev nD) : ends m c main_v3_1 = bytesAt (tokens (a0 m c)) (weights (a1 m c) (a2 m c)) (row (a3 m c)) (row (a4 m c)) (place (a5 m c)) := by
  unfold ends
  rw [Function.update_self]

/-- The codes in their final shape, -/
def codesEnd (c : Dev nD) : FVec Ideal S6x384x128 .fp8e4m3 :=
  shapeCast S6x384x128 (codesAt (tokens (a0 m c)) (weights (a1 m c) (a2 m c)) (row (a3 m c)) (row (a4 m c)) (place (a5 m c))) shapeCasts_S2304x128_S6x384x128
/-- the exponent bytes in theirs. -/
def bytesEnd (c : Dev nD) : IVec S6x384x4 8 :=
  transpose S6x384x4 [0, 2, 1] (bytesAt (tokens (a0 m c)) (weights (a1 m c) (a2 m c)) (row (a3 m c)) (row (a4 m c)) (place (a5 m c))) transposes_S6x4x384_S6x384x4_0_2_1

/-- The results in their final shapes, from the call's. -/
theorem after_v4 (σ : Valuation τ sig (Elt Ideal)) : StableHlo.after (List.flatten [hostOps1]) σ (Proc.devRef .tc main_v4)
    = shapeCast (α := EReal) S6x384x128 (σ (Proc.devRef .tc main_v3_0)) shapeCasts_S2304x128_S6x384x128 := by
  show StableHlo.after hostOps1 σ (Proc.devRef .tc main_v4) = _
  entry_read
  rfl
theorem after_v5 (σ : Valuation τ sig (Elt Ideal)) : StableHlo.after (List.flatten [hostOps1]) σ (Proc.devRef .tc main_v5)
    = transpose (α := BitVec 8) S6x384x4 [0, 2, 1] (σ (Proc.devRef .tc main_v3_1)) transposes_S6x4x384_S6x384x4_0_2_1 := by
  show StableHlo.after hostOps1 σ (Proc.devRef .tc main_v5) = _
  entry_read
  rfl

/-- The call's results, as the later host operations find them. -/
theorem exit_codes (c : Dev nD) : atExit m (ends m) c (Proc.devRef .tc main_v3_0) = ends m c main_v3_0 :=
  (Pipeline.withArrays_of_ne _ c _ _ main_v3_0 fun w => w.elim0).trans (Pipeline.withR_of_mem _ R0 c _ main_v3_0 (by decide))
theorem exit_bytes (c : Dev nD) : atExit m (ends m) c (Proc.devRef .tc main_v3_1) = ends m c main_v3_1 :=
  (Pipeline.withArrays_of_ne _ c _ _ main_v3_1 fun w => w.elim0).trans (Pipeline.withR_of_mem _ R0 c _ main_v3_1 (by decide))

/-- Where the precondition holds, every run ends at them. -/
theorem ends_of_served (hpre : Cert.Pre_KernelIdeal_served m) : Ends m (atG (ends m)) := by
  intro c g0 g1 s0 s1 s2 s3 s4 s5 s6 s7 s8 s9 s10 s11 s12
  obtain ⟨hp, hw, hb⟩ := Cert.Pre_served.served_facts (a0 m c) (a1 m c) (a2 m c) (a3 m c) (a4 m c) (a5 m c) (hpre c)
  have hP : ∀ (b : Fin 6) (t : Fin 384), pA c (V m c main_arg5) (ix2 b 0) + BitVec.ofNat 32 t.val = place (a5 m c) ⟨384 * b + t, by omega⟩ := by
    intro b t
    rw [host_p, hp b t]
    unfold place
    congr 2 <;> exact Fin.ext (by dsimp only; omega)
  have hw' : ∀ h, Bd (2 ^ 64) (lwA c (V m c main_v1) (ix2 0 h)) := fun h => by rw [host_lw]; exact hw h
  have hb' : ∀ h, Bd (2 ^ 64) (lbA c (V m c main_v2) (ix2 0 h)) := fun h => by rw [host_lb]; exact hb h
  have e0 : (fun t d => xA c (V m c main_v0) (ix2 t d)) = tokens (a0 m c) := funext fun t => funext fun d => host_x m c t d
  have e1 : (fun (h : Fin 128) (d : Fin 2048) => wA c (V m c main_arg1) (ix2 h d) * sA c (V m c main_arg2) (ix1 ⟨d / 128, by omega⟩)) = weights (a1 m c) (a2 m c) :=
    funext fun h => funext fun d => host_w m c h d
  have e2 : (fun h => lwA c (V m c main_v1) (ix2 0 h)) = row (a3 m c) := funext (host_lw m c)
  have e3 : (fun h => lbA c (V m c main_v2) (ix2 0 h)) = row (a4 m c) := funext (host_lb m c)
  constructor
  · rw [ends_codes]
    funext y
    have e := run_codes_apply c (V m c main_v0) (V m c main_arg1) (V m c main_arg2) (V m c main_v1) (V m c main_v2) (V m c main_arg5) g0 g1
      s0 s1 s2 s3 s4 s5 s6 s7 s8 s9 s10 s11 s12 (place (a5 m c)) hP hw' hb' y
    rw [e0, e1, e2, e3] at e
    exact e
  · rw [ends_bytes]
    funext y
    have e := run_scale_apply c (V m c main_v0) (V m c main_arg1) (V m c main_arg2) (V m c main_v1) (V m c main_v2) (V m c main_arg5) g0 g1
      s0 s1 s2 s3 s4 s5 s6 s7 s8 s9 s10 s11 s12 (place (a5 m c)) hP hw' hb' y
    rw [e0, e1, e2, e3] at e
    exact e

/-- The kernel's run, its results named. -/
theorem run_ends (hpre : Cert.Pre_KernelIdeal_served m) : θ_run (defs (F := Ideal)) (onTc (τ := τ) (main (F := Ideal))) ⟨m, fun _ => 0, ρ⟩ (fun r => ∀ c : Dev nD,
    r.2.mem ((c.tc : Thread nD τ).loc main_v4) = codesEnd m c ∧ r.2.mem ((c.tc : Thread nD τ).loc main_v5) = bytesEnd m c) :=
  (θ_run defs _ _).mono (fun _ h c =>
    ⟨(h c main_v4 (by decide)).trans ((after_v4 _).trans (congrArg (fun v => shapeCast (α := EReal) S6x384x128 v shapeCasts_S2304x128_S6x384x128) ((exit_codes m c).trans (ends_codes m c)))),
      (h c main_v5 (by decide)).trans ((after_v5 _).trans (congrArg (fun v => transpose (α := BitVec 8) S6x384x4 [0, 2, 1] v transposes_S6x4x384_S6x384x4_0_2_1) ((exit_bytes m c).trans (ends_bytes m c))))⟩)
    (run_value m ρ (ends m) (ends_of_served m hpre))

end Cert.KernelIdeal.Hand

namespace Cert.Key

open Idealize.ShloMosaic Idealize.ShloMosaic.TcCoe Idealize.SL.Sem Idealize.ShloMosaic.Pointwise

attribute [local instance] Cert.Pre_served.facts Cert.KernelIdeal.Gen.facts Cert.ReferenceIdeal.Gen.facts

section

open Cert.ReferenceIdeal Cert.ReferenceIdeal.Gen Cert.ReferenceIdeal.Hand

/-- Bytes by token and group, cut into sequences, against bytes by sequence, group and token, transposed. -/
theorem bytes_shape (r : IVec S2304x4 8) (k : IVec Cert.KernelIdeal.S6x4x384 8)
    (h : ∀ (b : Fin 6) (g : Fin 4) (t : Fin 384), r (ix2 ⟨384 * b + t, by omega⟩ g) = k (ix3 b g t)) :
    shapeCast S6x384x4 r shapeCasts_S2304x4_S6x384x4
      = transpose Cert.KernelIdeal.S6x384x4 [0, 2, 1] k Cert.KernelIdeal.Gen.transposes_S6x4x384_S6x384x4_0_2_1 := by
  funext y
  obtain ⟨b, t, g, rfl⟩ : ∃ (b : Fin 6) (t : Fin 384) (g : Fin 4), y = ix3 b t g :=
    ⟨y 0, y 1, y 2, funext fun k => by match k with | 0 => rfl | 1 => rfl | 2 => rfl⟩
  have e1 : shapeCast S6x384x4 r shapeCasts_S2304x4_S6x384x4 (ix3 b t g) = r (ix2 ⟨384 * b + t, by omega⟩ g) := by
    pointwise
    exact congrArg r (congrArg (fun i => ix2 i g) (Fin.ext (by dsimp only; omega)))
  have e2 : transpose Cert.KernelIdeal.S6x384x4 [0, 2, 1] k Cert.KernelIdeal.Gen.transposes_S6x4x384_S6x384x4_0_2_1 (ix3 b t g) = k (ix3 b g t) := by
    pointwise
  exact e1.trans ((h b g t).trans e2.symm)

variable (m' : (ℓ : Loc nD τ sig) → Buf (Elt Ideal) ℓ) (c : Dev nD)

theorem tail_codes : Pipeline.afterTail₀ cfgs (dats m') 0 (V0 m') [hostOps1] c main_v8
    = shapeCast (α := EReal) S6x384x128 (Cert.KernelIdeal.Hand.codesAt (tokens (a0 m' c)) (weights (a1 m' c) (a2 m' c)) (row (a3 m' c)) (row (a4 m' c)) (place (a5 m' c)))
        shapeCasts_S2304x128_S6x384x128 :=
  (after_v8 _).trans (congrArg (fun v => shapeCast (α := EReal) S6x384x128 v shapeCasts_S2304x128_S6x384x128)
    ((Pipeline.withArrays_arr spec0 (by decide) c _ _ 6).trans (ref_codes m' c)))

theorem tail_bytes : Pipeline.afterTail₀ cfgs (dats m') 0 (V0 m') [hostOps1] c main_v9
    = transpose (α := BitVec 8) Cert.KernelIdeal.S6x384x4 [0, 2, 1]
        (Cert.KernelIdeal.Hand.bytesAt (tokens (a0 m' c)) (weights (a1 m' c) (a2 m' c)) (row (a3 m' c)) (row (a4 m' c)) (place (a5 m' c)))
        Cert.KernelIdeal.Gen.transposes_S6x4x384_S6x384x4_0_2_1 :=
  ((after_v9 _).trans (congrArg (fun v => shapeCast (α := BitVec 8) S6x384x4 v shapeCasts_S2304x4_S6x384x4) (Pipeline.withArrays_arr spec0 (by decide) c _ _ 7))).trans
    (bytes_shape _ _ (ref_bytes m' c))

end

theorem algebraic : Cert.algebraic_KernelIdeal_ReferenceIdeal_pre_served := by
  intro m g m' g' hpre hargs
  refine ⟨fun c => Cert.KernelIdeal.Hand.codesEnd m c, fun c => Cert.KernelIdeal.Hand.bytesEnd m c, ?_, ?_⟩
  · refine (θ_run _ _ _).mono ?_ (θ_run_and (Cert.KernelIdeal.Hand.run_ends m g hpre) (Cert.KernelIdeal.Hand.frame m g))
    intro r h c
    exact ⟨(h.1 c).1, (h.1 c).2, h.2.1 c⟩
  · refine (θ_run _ _ _).mono ?_ (θ_run_and (Cert.ReferenceIdeal.Gen.run_main m' g') (Cert.ReferenceIdeal.Gen.unchanged m' g'))
    intro r h c
    obtain ⟨k0, k1, k2, k3, k4, k5⟩ := hargs c
    refine ⟨((h.1 c).2 Cert.ReferenceIdeal.main_v8 (by decide)).trans ?_, ((h.1 c).2 Cert.ReferenceIdeal.main_v9 (by decide)).trans ?_, h.2 c⟩
    · refine (tail_codes m' c).trans ?_
      unfold Cert.ReferenceIdeal.Hand.a0 Cert.ReferenceIdeal.Hand.a1 Cert.ReferenceIdeal.Hand.a2 Cert.ReferenceIdeal.Hand.a3 Cert.ReferenceIdeal.Hand.a4 Cert.ReferenceIdeal.Hand.a5
      rw [k0, k1, k2, k3, k4, k5]
      rfl
    · refine (tail_bytes m' c).trans ?_
      unfold Cert.ReferenceIdeal.Hand.a0 Cert.ReferenceIdeal.Hand.a1 Cert.ReferenceIdeal.Hand.a2 Cert.ReferenceIdeal.Hand.a3 Cert.ReferenceIdeal.Hand.a4 Cert.ReferenceIdeal.Hand.a5
      rw [k0, k1, k2, k3, k4, k5]
      rfl

end Cert.Key

end
-- ==== Proof.lean ====
/-
  The proof of the certificate's claims: the kernel, as printed and idealized, and the idealized reference run and keep
  their arguments; the idealized kernel is the printed one's idealization; and kernel and reference give the same codes and
  exponent bytes over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Frame
public import proofs.«01_k».proof.Proof.FrameIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_served.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, Cert.Key.algebraic⟩

end Cert.Proof

end
